-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tiles_named : Cert.Pre_tiles_named.Facts] (m : (ℓ : Loc Cert.Kernel2.nD Cert.Kernel2.τ Cert.Kernel2.sig) → Buf (Elt Bits) ℓ) : Prop :=
  ∀ c : Dev Cert.Kernel2.nD,
    (Cert.Pre_tiles_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles_named : Cert.Pre_tiles_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_named [hPre_tiles_named : Cert.Pre_tiles_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tiles_named : Cert.Pre_tiles_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles_named : Cert.Pre_tiles_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_named [hReference2Ideal : Cert.Reference2Ideal.Facts] [hPre_tiles_named : Cert.Pre_tiles_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tiles_named : Cert.Pre_tiles_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tiles_named : Cert.Pre_tiles_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tiles_named := hPre_tiles_named)
    ∧ quiescent_Kernel2Ideal (hKernel2Ideal := hKernel2Ideal) (hPre_tiles_named := hPre_tiles_named)
    ∧ quiescent_Reference2Ideal (hReference2Ideal := hReference2Ideal)
    ∧ quiescent_Reference2Ideal_pre_tiles_named (hReference2Ideal := hReference2Ideal) (hPre_tiles_named := hPre_tiles_named)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tiles_named := hPre_tiles_named)
    ∧ preserves_Kernel3_Kernel3Ideal
    ∧ algebraic_Kernel3Ideal_Reference3Ideal (hKernel3Ideal := hKernel3Ideal) (hReference3Ideal := hReference3Ideal)
-- ==== Pre_tiles_named.lean ====
abbrev S40960x1024 : Shape := ⟨2, ![40960, 1024]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)
  bcast_S1_S40_0 : S1.BroadcastsInDim S40 (![0] : Fin 1 → Fin S40.rank)

variable [Facts]

def fn {F : FTy → Type} [FloatOps F] (main_arg0 : FVec F S40960x1024 .f32) (main_arg1 : IVec S40 32) (main_arg2 : IVec S1 32) (main_arg3 : FVec F S8x1024x3584 .f32) (main_arg4 : FVec F S8x1024x3584 .f32) (main_arg5 : FVec F S8x3584x1024 .f32) : IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S40 1 := broadcastInDim S40 ![0] bcast_S1_S40_0 main_v6
  let main_v8 : IVec S40 1 := andi main_v4 main_v7
  main_v8
-- ==== Kernel.lean ====
abbrev S12 : Shape := ⟨1, ![12]⟩
abbrev S8x12x1x2048x128 : Shape := ⟨5, ![8, 12, 1, 2048, 128]⟩
abbrev S8x12x4x512x128 : Shape := ⟨5, ![8, 12, 4, 512, 128]⟩
abbrev S8x12x16x128x128 : Shape := ⟨5, ![8, 12, 16, 128, 128]⟩
abbrev S8x2048x512 : Shape := ⟨3, ![8, 2048, 512]⟩
abbrev S1x1x1x2048x128 : Shape := ⟨5, ![1, 1, 1, 2048, 128]⟩
abbrev S1x1x4x512x128 : Shape := ⟨5, ![1, 1, 4, 512, 128]⟩
abbrev S1x1x16x128x128 : Shape := ⟨5, ![1, 1, 16, 128, 128]⟩
abbrev S1x2048x128 : Shape := ⟨3, ![1, 2048, 128]⟩
abbrev S3x2048x128 : Shape := ⟨3, ![3, 2048, 128]⟩
abbrev S1 : Shape := ⟨1, ![1]⟩
abbrev S1x256 : Shape := ⟨2, ![1, 256]⟩
abbrev S128x256 : Shape := ⟨2, ![128, 256]⟩
abbrev S1x1x1x128x128 : Shape := ⟨5, ![1, 1, 1, 128, 128]⟩
abbrev S128x128 : Shape := ⟨2, ![128, 128]⟩
abbrev S1x1x1x256x128 : Shape := ⟨5, ![1, 1, 1, 256, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S2048x128 : Shape := ⟨2, ![2048, 128]⟩
abbrev S1x128 : Shape := ⟨2, ![1, 128]⟩
abbrev S1x256x128 : Shape := ⟨3, ![1, 256, 128]⟩

abbrev nBuf : Space → Nat
  | .hbm => 5
  | .vmem => 22
  | .smem => 1
  | _ => 0

abbrev bufTy : (tb : Table) → Fin (tcTables nBuf tb) → BufTy
  | .hbm, ⟨0, _⟩ => ⟨S12, .f32⟩
  | .hbm, ⟨1, _⟩ => ⟨S8x12x1x2048x128, .bf16⟩
  | .hbm, ⟨2, _⟩ => ⟨S8x12x4x512x128, .bf16⟩
  | .hbm, ⟨3, _⟩ => ⟨S8x12x16x128x128, .bf16⟩
  | .hbm, ⟨4, _⟩ => ⟨S8x2048x512, .bf16⟩
  | .local _ .vmem, ⟨0, _⟩ => ⟨S1x1x1x2048x128, .bf16⟩
  | .local _ .vmem, ⟨1, _⟩ => ⟨S1x1x1x2048x128, .bf16⟩
  | .local _ .vmem, ⟨2, _⟩ => ⟨S1x1x1x2048x128, .bf16⟩
  | .local _ .vmem, ⟨3, _⟩ => ⟨S1x1x1x2048x128, .bf16⟩
  | .local _ .vmem, ⟨4, _⟩ => ⟨S1x1x1x2048x128, .bf16⟩
  | .local _ .vmem, ⟨5, _⟩ => ⟨S1x1x1x2048x128, .bf16⟩
  | .local _ .vmem, ⟨6, _⟩ => ⟨S1x1x4x512x128, .bf16⟩
  | .local _ .vmem, ⟨7, _⟩ => ⟨S1x1x4x512x128, .bf16⟩
  | .local _ .vmem, ⟨8, _⟩ => ⟨S1x1x4x512x128, .bf16⟩
  | .local _ .vmem, ⟨9, _⟩ => ⟨S1x1x4x512x128, .bf16⟩
  | .local _ .vmem, ⟨10, _⟩ => ⟨S1x1x4x512x128, .bf16⟩
  | .local _ .vmem, ⟨11, _⟩ => ⟨S1x1x4x512x128, .bf16⟩
  | .local _ .vmem, ⟨12, _⟩ => ⟨S1x1x16x128x128, .bf16⟩
  | .local _ .vmem, ⟨13, _⟩ => ⟨S1x1x16x128x128, .bf16⟩
  | .local _ .vmem, ⟨14, _⟩ => ⟨S1x1x16x128x128, .bf16⟩
  | .local _ .vmem, ⟨15, _⟩ => ⟨S1x1x16x128x128, .bf16⟩
  | .local _ .vmem, ⟨16, _⟩ => ⟨S1x1x16x128x128, .bf16⟩
  | .local _ .vmem, ⟨17, _⟩ => ⟨S1x1x16x128x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S3x2048x128, .f32⟩
  | .local _ .vmem, ⟨21, _⟩ => ⟨S3x2048x128, .f32⟩
  | .local _ .smem, ⟨0, _⟩ => ⟨S12, .f32⟩
  | _, _ => ⟨S12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 1 → Nat :=
  let arg1 : BitVec 32 := BitVec.ofNat 32 (i 1).val
  let v0 : BitVec 32 := Scalar.addi c0_i32 arg1
  let v1 : Index := Scalar.indexCast v0
  ![v1.toNat]
@[reducible] def k0_t1_loop : Scf.Loop 32 :=
  let c0_i32_0 : BitVec 32 := 0#32
  let c16_i32 : BitVec 32 := 16#32
  let v9 : BitVec 32 := Scalar.addi c0_i32_0 c16_i32
  let c1_i32 : BitVec 32 := 1#32
  ⟨c0_i32_0, v9, c1_i32⟩
def k0_mult1 (k0_t1 : Fin k0_t1_loop.trips) : BitVec 32 :=
  let c0_i32_0 : BitVec 32 := 0#32
  let c1_i32 : BitVec 32 := 1#32
  let arg15 : BitVec 32 := Scf.iv c0_i32_0 c1_i32 k0_t1
  let c15_i32 : BitVec 32 := 15#32
  let v287 : BitVec 32 := Scalar.andi arg15 c15_i32
  let c128_i32 : BitVec 32 := 128#32
  let v288 : BitVec 32 := Scalar.muli v287 c128_i32
  v288
def k0_mult2 (k0_t1 : Fin k0_t1_loop.trips) : BitVec 32 :=
  let c1792_i32 : BitVec 32 := 1792#32
  let c0_i32_171 : BitVec 32 := 0#32
  let c0_i32_0 : BitVec 32 := 0#32
  let c1_i32 : BitVec 32 := 1#32
  let arg15 : BitVec 32 := Scf.iv c0_i32_0 c1_i32 k0_t1
  let c15_i32 : BitVec 32 := 15#32
  let v287 : BitVec 32 := Scalar.andi arg15 c15_i32
  let c128_i32 : BitVec 32 := 128#32
  let v288 : BitVec 32 := Scalar.muli v287 c128_i32
  let v289 : BitVec 32 := v288
  let c64_i32 : BitVec 32 := 64#32
  let v290 : BitVec 32 := Scalar.subi v289 c64_i32
  let v291 : BitVec 32 := Scalar.maxsi c0_i32_171 v290
  let v292 : BitVec 32 := Scalar.minsi c1792_i32 v291
  v292
def k0_off2 (k0_t1 : Fin k0_t1_loop.trips) : Fin 5 → Nat :=
  let c0_172 : Index := 0#32
  let c0_173 : Index := 0#32
  let c0_i32_0 : BitVec 32 := 0#32
  let c1_i32 : BitVec 32 := 1#32
  let arg15 : BitVec 32 := Scf.iv c0_i32_0 c1_i32 k0_t1
  let c4_i32_170 : BitVec 32 := 4#32
  let v286 : BitVec 32 := Scalar.shrui arg15 c4_i32_170
  let v294 : Index := Scalar.indexCast v286
  let c15_i32 : BitVec 32 := 15#32
  let v287 : BitVec 32 := Scalar.andi arg15 c15_i32
  let c128_i32 : BitVec 32 := 128#32
  let v288 : BitVec 32 := Scalar.muli v287 c128_i32
  let v289 : BitVec 32 := v288
  let v295 : Index := Scalar.indexCast v289
  let c0_174 : Index := 0#32
  ![0, 0, v294.toNat, v295.toNat, 0]
def k0_off3 (k0_t1 : Fin k0_t1_loop.trips) : Fin 5 → Nat :=
  let c0_175 : Index := 0#32
  let c0_176 : Index := 0#32
  let c0_i32_0 : BitVec 32 := 0#32
  let c1_i32 : BitVec 32 := 1#32
  let arg15 : BitVec 32 := Scf.iv c0_i32_0 c1_i32 k0_t1
  let c4_i32_170 : BitVec 32 := 4#32
  let v286 : BitVec 32 := Scalar.shrui arg15 c4_i32_170
  let v298 : Index := Scalar.indexCast v286
  let c1792_i32 : BitVec 32 := 1792#32
  let c0_i32_171 : BitVec 32 := 0#32
  let c15_i32 : BitVec 32 := 15#32
  let v287 : BitVec 32 := Scalar.andi arg15 c15_i32
  let c128_i32 : BitVec 32 := 128#32
  let v288 : BitVec 32 := Scalar.muli v287 c128_i32
  let v289 : BitVec 32 := v288
  let c64_i32 : BitVec 32 := 64#32
  let v290 : BitVec 32 := Scalar.subi v289 c64_i32
  let v291 : BitVec 32 := Scalar.maxsi c0_i32_171 v290
  let v292 : BitVec 32 := Scalar.minsi c1792_i32 v291
  let v293 : BitVec 32 := v292
  let v299 : Index := Scalar.indexCast v293
  let c0_177 : Index := 0#32
  ![0, 0, v298.toNat, v299.toNat, 0]
def k0_off4 (k0_t1 : Fin k0_t1_loop.trips) : Fin 3 → Nat :=
  let c0_189 : Index := 0#32
  let c0_i32_0 : BitVec 32 := 0#32
  let c1_i32 : BitVec 32 := 1#32
  let arg15 : BitVec 32 := Scf.iv c0_i32_0 c1_i32 k0_t1
  let c15_i32 : BitVec 32 := 15#32
  let v287 : BitVec 32 := Scalar.andi arg15 c15_i32
  let c128_i32 : BitVec 32 := 128#32
  let v288 : BitVec 32 := Scalar.muli v287 c128_i32
  let v289 : BitVec 32 := v288
  let c1_i32_188 : BitVec 32 := 1#32
  let v336 : BitVec 32 := Scalar.muli v289 c1_i32_188
  let c4_i32_170 : BitVec 32 := 4#32
  let v286 : BitVec 32 := Scalar.shrui arg15 c4_i32_170
  let v337 : BitVec 32 := Scalar.addi v336 v286
  let v338 : Index := Scalar.indexCast v337
  let c0_190 : Index := 0#32
  ![0, v338.toNat, 0]
@[reducible] def k0_t2_loop : Scf.Loop 32 :=
  let c0_i32_3 : BitVec 32 := 0#32
  let c16_i32_4 : BitVec 32 := 16#32
  let v19 : BitVec 32 := Scalar.addi c0_i32_3 c16_i32_4
  let c1_i32_5 : BitVec 32 := 1#32
  ⟨c0_i32_3, v19, c1_i32_5⟩
def k0_mult3 (k0_t2 : Fin k0_t2_loop.trips) : BitVec 32 :=
  let c0_i32_3 : BitVec 32 := 0#32
  let c1_i32_5 : BitVec 32 := 1#32
  let arg15 : BitVec 32 := Scf.iv c0_i32_3 c1_i32_5 k0_t2
  let c3_i32 : BitVec 32 := 3#32
  let v287 : BitVec 32 := Scalar.andi arg15 c3_i32
  let c128_i32 : BitVec 32 := 128#32
  let v288 : BitVec 32 := Scalar.muli v287 c128_i32
  v288
def k0_mult4 (k0_t2 : Fin k0_t2_loop.trips) : BitVec 32 :=
  let c256_i32 : BitVec 32 := 256#32
  let c0_i32_170 : BitVec 32 := 0#32
  let c0_i32_3 : BitVec 32 := 0#32
  let c1_i32_5 : BitVec 32 := 1#32
  let arg15 : BitVec 32 := Scf.iv c0_i32_3 c1_i32_5 k0_t2
  let c3_i32 : BitVec 32 := 3#32
  let v287 : BitVec 32 := Scalar.andi arg15 c3_i32
  let c128_i32 : BitVec 32 := 128#32
  let v288 : BitVec 32 := Scalar.muli v287 c128_i32
  let v289 : BitVec 32 := v288
  let c64_i32 : BitVec 32 := 64#32
  let v290 : BitVec 32 := Scalar.subi v289 c64_i32
  let v291 : BitVec 32 := Scalar.maxsi c0_i32_170 v290
  let v292 : BitVec 32 := Scalar.minsi c256_i32 v291
  v292
def k0_off5 (k0_t2 : Fin k0_t2_loop.trips) : Fin 5 → Nat :=
  let c0_171 : Index := 0#32
  let c0_172 : Index := 0#32
  let c0_i32_3 : BitVec 32 := 0#32
  let c1_i32_5 : BitVec 32 := 1#32
  let arg15 : BitVec 32 := Scf.iv c0_i32_3 c1_i32_5 k0_t2
  let c2_i32 : BitVec 32 := 2#32
  let v286 : BitVec 32 := Scalar.shrui arg15 c2_i32
  let v294 : Index := Scalar.indexCast v286
  let c3_i32 : BitVec 32 := 3#32
  let v287 : BitVec 32 := Scalar.andi arg15 c3_i32
  let c128_i32 : BitVec 32 := 128#32
  let v288 : BitVec 32 := Scalar.muli v287 c128_i32
  let v289 : BitVec 32 := v288
  let v295 : Index := Scalar.indexCast v289
  let c0_173 : Index := 0#32
  ![0, 0, v294.toNat, v295.toNat, 0]
def k0_off6 (k0_t2 : Fin k0_t2_loop.trips) : Fin 5 → Nat :=
  let c0_174 : Index := 0#32
  let c0_175 : Index := 0#32
  let c0_i32_3 : BitVec 32 := 0#32
  let c1_i32_5 : BitVec 32 := 1#32
  let arg15 : BitVec 32 := Scf.iv c0_i32_3 c1_i32_5 k0_t2
  let c2_i32 : BitVec 32 := 2#32
  let v286 : BitVec 32 := Scalar.shrui arg15 c2_i32
  let v298 : Index := Scalar.indexCast v286
  let c256_i32 : BitVec 32 := 256#32
  let c0_i32_170 : BitVec 32 := 0#32
  let c3_i32 : BitVec 32 := 3#32
  let v287 : BitVec 32 := Scalar.andi arg15 c3_i32
  let c128_i32 : BitVec 32 := 128#32
  let v288 : BitVec 32 := Scalar.muli v287 c128_i32
  let v289 : BitVec 32 := v288
  let c64_i32 : BitVec 32 := 64#32
  let v290 : BitVec 32 := Scalar.subi v289 c64_i32
  let v291 : BitVec 32 := Scalar.maxsi c0_i32_170 v290
  let v292 : BitVec 32 := Scalar.minsi c256_i32 v291
  let v293 : BitVec 32 := v292
  let v299 : Index := Scalar.indexCast v293
  let c0_176 : Index := 0#32
  ![0, 0, v298.toNat, v299.toNat, 0]
def k0_off7 (k0_t2 : Fin k0_t2_loop.trips) : Fin 2 → Nat :=
  let c0_i32_3 : BitVec 32 := 0#32
  let c1_i32_5 : BitVec 32 := 1#32
  let arg15 : BitVec 32 := Scf.iv c0_i32_3 c1_i32_5 k0_t2
  let c3_i32 : BitVec 32 := 3#32
  let v287 : BitVec 32 := Scalar.andi arg15 c3_i32
  let c128_i32 : BitVec 32 := 128#32
  let v288 : BitVec 32 := Scalar.muli v287 c128_i32
  let v289 : BitVec 32 := v288
  let c4_i32_187 : BitVec 32 := 4#32
  let v336 : BitVec 32 := Scalar.muli v289 c4_i32_187
  let c2_i32 : BitVec 32 := 2#32
  let v286 : BitVec 32 := Scalar.shrui arg15 c2_i32
  let v337 : BitVec 32 := Scalar.addi v336 v286
  let v340 : Index := Scalar.indexCast v337
  let c0_191 : Index := 0#32
  ![v340.toNat, 0]
@[reducible] def k0_t3_loop : Scf.Loop 32 :=
  let c0_i32_8 : BitVec 32 := 0#32
  let c16_i32_9 : BitVec 32 := 16#32
  let v29 : BitVec 32 := Scalar.addi c0_i32_8 c16_i32_9
  let c1_i32_10 : BitVec 32 := 1#32
  ⟨c0_i32_8, v29, c1_i32_10⟩
def k0_mult5 (k0_t3 : Fin k0_t3_loop.trips) : BitVec 32 :=
  let c0_i32_8 : BitVec 32 := 0#32
  let c1_i32_10 : BitVec 32 := 1#32
  let arg15 : BitVec 32 := Scf.iv c0_i32_8 c1_i32_10 k0_t3
  let c0_i32_171 : BitVec 32 := 0#32
  let v287 : BitVec 32 := Scalar.andi arg15 c0_i32_171
  let c128_i32 : BitVec 32 := 128#32
  let v288 : BitVec 32 := Scalar.muli v287 c128_i32
  v288
def k0_mult6 (k0_t3 : Fin k0_t3_loop.trips) : BitVec 32 :=
  let c0_i32_173 : BitVec 32 := 0#32
  let c0_i32_172 : BitVec 32 := 0#32
  let c0_i32_8 : BitVec 32 := 0#32
  let c1_i32_10 : BitVec 32 := 1#32
  let arg15 : BitVec 32 := Scf.iv c0_i32_8 c1_i32_10 k0_t3
  let c0_i32_171 : BitVec 32 := 0#32
  let v287 : BitVec 32 := Scalar.andi arg15 c0_i32_171
  let c128_i32 : BitVec 32 := 128#32
  let v288 : BitVec 32 := Scalar.muli v287 c128_i32
  let v289 : BitVec 32 := v288
  let c64_i32 : BitVec 32 := 64#32
  let v290 : BitVec 32 := Scalar.subi v289 c64_i32
  let v291 : BitVec 32 := Scalar.maxsi c0_i32_172 v290
  let v292 : BitVec 32 := Scalar.minsi c0_i32_173 v291
  v292
def k0_off8 (k0_t3 : Fin k0_t3_loop.trips) : Fin 5 → Nat :=
  let c0_174 : Index := 0#32
  let c0_175 : Index := 0#32
  let c0_i32_8 : BitVec 32 := 0#32
  let c1_i32_10 : BitVec 32 := 1#32
  let arg15 : BitVec 32 := Scf.iv c0_i32_8 c1_i32_10 k0_t3
  let c0_i32_170 : BitVec 32 := 0#32
  let v286 : BitVec 32 := Scalar.shrui arg15 c0_i32_170
  let v294 : Index := Scalar.indexCast v286
  let c0_i32_171 : BitVec 32 := 0#32
  let v287 : BitVec 32 := Scalar.andi arg15 c0_i32_171
  let c128_i32 : BitVec 32 := 128#32
  let v288 : BitVec 32 := Scalar.muli v287 c128_i32
  let v289 : BitVec 32 := v288
  let v295 : Index := Scalar.indexCast v289
  let c0_176 : Index := 0#32
  ![0, 0, v294.toNat, v295.toNat, 0]
def k0_off9 (k0_t3 : Fin k0_t3_loop.trips) : Fin 5 → Nat :=
  let c0_177 : Index := 0#32
  let c0_178 : Index := 0#32
  let c0_i32_8 : BitVec 32 := 0#32
  let c1_i32_10 : BitVec 32 := 1#32
  let arg15 : BitVec 32 := Scf.iv c0_i32_8 c1_i32_10 k0_t3
  let c0_i32_170 : BitVec 32 := 0#32
  let v286 : BitVec 32 := Scalar.shrui arg15 c0_i32_170
  let v298 : Index := Scalar.indexCast v286
  let c0_i32_173 : BitVec 32 := 0#32
  let c0_i32_172 : BitVec 32 := 0#32
  let c0_i32_171 : BitVec 32 := 0#32
  let v287 : BitVec 32 := Scalar.andi arg15 c0_i32_171
  let c128_i32 : BitVec 32 := 128#32
  let v288 : BitVec 32 := Scalar.muli v287 c128_i32
  let v289 : BitVec 32 := v288
  let c64_i32 : BitVec 32 := 64#32
  let v290 : BitVec 32 := Scalar.subi v289 c64_i32
  let v291 : BitVec 32 := Scalar.maxsi c0_i32_172 v290
  let v292 : BitVec 32 := Scalar.minsi c0_i32_173 v291
  let v293 : BitVec 32 := v292
  let v299 : Index := Scalar.indexCast v293
  let c0_179 : Index := 0#32
  ![0, 0, v298.toNat, v299.toNat, 0]
def k0_off10 (k0_t3 : Fin k0_t3_loop.trips) : Fin 2 → Nat :=
  let c0_i32_8 : BitVec 32 := 0#32
  let c1_i32_10 : BitVec 32 := 1#32
  let arg15 : BitVec 32 := Scf.iv c0_i32_8 c1_i32_10 k0_t3
  let c0_i32_171 : BitVec 32 := 0#32
  let v287 : BitVec 32 := Scalar.andi arg15 c0_i32_171
  let c128_i32 : BitVec 32 := 128#32
  let v288 : BitVec 32 := Scalar.muli v287 c128_i32
  let v289 : BitVec 32 := v288
  let c16_i32_190 : BitVec 32 := 16#32
  let v336 : BitVec 32 := Scalar.muli v289 c16_i32_190
  let c0_i32_170 : BitVec 32 := 0#32
  let v286 : BitVec 32 := Scalar.shrui arg15 c0_i32_170
  let v337 : BitVec 32 := Scalar.addi v336 v286
  let v340 : Index := Scalar.indexCast v337
  let c0_193 : Index := 0#32
  ![v340.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_8 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S12 : Shape := ⟨1, ![12]⟩
abbrev S8x12x1x2048x128 : Shape := ⟨5, ![8, 12, 1, 2048, 128]⟩
abbrev S8x12x4x512x128 : Shape := ⟨5, ![8, 12, 4, 512, 128]⟩
abbrev S8x12x16x128x128 : Shape := ⟨5, ![8, 12, 16, 128, 128]⟩
abbrev S8x4x1x2048x128 : Shape := ⟨5, ![8, 4, 1, 2048, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4 : Shape := ⟨1, ![4]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S8x4x1x2048x2048 : Shape := ⟨5, ![8, 4, 1, 2048, 2048]⟩
abbrev S1x4x1x2048x2048 : Shape := ⟨5, ![1, 4, 1, 2048, 2048]⟩
abbrev S1x1x1x2048x2048 : Shape := ⟨5, ![1, 1, 1, 2048, 2048]⟩
abbrev S8x4x1x2048 : Shape := ⟨4, ![8, 4, 1, 2048]⟩
abbrev S8x4x1x2048x1 : Shape := ⟨5, ![8, 4, 1, 2048, 1]⟩
abbrev S8x4x2048x1x128 : Shape := ⟨5, ![8, 4, 2048, 1, 128]⟩
abbrev S8x4x2048x128 : Shape := ⟨4, ![8, 4, 2048, 128]⟩
abbrev S8x4x2048x1 : Shape := ⟨4, ![8, 4, 2048, 1]⟩
abbrev S8x4x2048 : Shape := ⟨3, ![8, 4, 2048]⟩
abbrev S8x4x4x512x128 : Shape := ⟨5, ![8, 4, 4, 512, 128]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x512 : Shape := ⟨3, ![1, 512, 512]⟩
abbrev S4x512x512 : Shape := ⟨3, ![4, 512, 512]⟩
abbrev S8x4x4x512x512 : Shape := ⟨5, ![8, 4, 4, 512, 512]⟩
abbrev S1x4x1x512x512 : Shape := ⟨5, ![1, 4, 1, 512, 512]⟩
abbrev S1x1x1x512x512 : Shape := ⟨5, ![1, 1, 1, 512, 512]⟩
abbrev S8x4x4x512 : Shape := ⟨4, ![8, 4, 4, 512]⟩
abbrev S8x4x4x512x1 : Shape := ⟨5, ![8, 4, 4, 512, 1]⟩
abbrev S8x4x512x4x128 : Shape := ⟨5, ![8, 4, 512, 4, 128]⟩
abbrev S8x4x512x4 : Shape := ⟨4, ![8, 4, 512, 4]⟩
abbrev S8x4x16x128x128 : Shape := ⟨5, ![8, 4, 16, 128, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S1x1x1x128x128 : Shape := ⟨5, ![1, 1, 1, 128, 128]⟩
abbrev S8x4x16x128 : Shape := ⟨4, ![8, 4, 16, 128]⟩
abbrev S8x4x16x128x1 : Shape := ⟨5, ![8, 4, 16, 128, 1]⟩
abbrev S8x4x128x16x128 : Shape := ⟨5, ![8, 4, 128, 16, 128]⟩
abbrev S8x4x128x16 : Shape := ⟨4, ![8, 4, 128, 16]⟩
abbrev S1x8x4x2048 : Shape := ⟨4, ![1, 8, 4, 2048]⟩
abbrev S3x8x4x2048 : Shape := ⟨4, ![3, 8, 4, 2048]⟩
abbrev S1x8x4x2048x128 : Shape := ⟨5, ![1, 8, 4, 2048, 128]⟩
abbrev S3x8x4x2048x128 : Shape := ⟨5, ![3, 8, 4, 2048, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S8x2048x512 : Shape := ⟨3, ![8, 2048, 512]⟩

abbrev nBuf : Space → Nat
  | .hbm => 201
  | .vmem => 0
  | .smem => 0
  | _ => 0

abbrev hbmTy0_0 (i : Nat) : BufTy := match i % 128 with
  | 0 => ⟨S12, .f32⟩
  | 1 => ⟨S8x12x1x2048x128, .bf16⟩
  | 2 => ⟨S8x12x4x512x128, .bf16⟩
  | 3 => ⟨S8x12x16x128x128, .bf16⟩
  | 4 => ⟨S8x12x1x2048x128, .f32⟩
  | 5 => ⟨S8x4x1x2048x128, .f32⟩
  | 6 => ⟨S8x4x1x2048x128, .f32⟩
  | 7 => ⟨S8x4x1x2048x128, .f32⟩
  | 8 => ⟨S2048, .i32⟩
  | 9 => ⟨S1x2048, .i32⟩
  | 10 => ⟨S2048, .i32⟩
  | 11 => ⟨S2048x1, .i32⟩
  | 12 => ⟨S2048x2048, .i32⟩
  | 13 => ⟨S2048x2048, .i32⟩
  | 14 => ⟨S2048x2048, .i32⟩
  | 15 => ⟨S2048x2048, .i32⟩
  | 16 => ⟨S_, .i32⟩
  | 17 => ⟨S2048x2048, .i32⟩
  | 18 => ⟨S2048x2048, .i32⟩
  | 19 => ⟨S2048x2048, .f32⟩
  | 20 => ⟨S4, .f32⟩
  | 21 => ⟨S4x1x1, .f32⟩
  | 22 => ⟨S4x1x1, .f32⟩
  | 23 => ⟨S1x2048x2048, .f32⟩
  | 24 => ⟨S4x2048x2048, .f32⟩
  | 25 => ⟨S4x2048x2048, .f32⟩
  | 26 => ⟨S4x2048x2048, .f32⟩
  | 27 => ⟨S8x4x1x2048x2048, .f32⟩
  | 28 => ⟨S_, .f32⟩
  | 29 => ⟨S8x4x1x2048x2048, .f32⟩
  | 30 => ⟨S8x4x1x2048x2048, .f32⟩
  | 31 => ⟨S1x4x1x2048x2048, .f32⟩
  | 32 => ⟨S8x4x1x2048x2048, .f32⟩
  | 33 => ⟨S8x4x1x2048x2048, .f32⟩
  | 34 => ⟨S_, .i32⟩
  | 35 => ⟨S2048x2048, .i32⟩
  | 36 => ⟨S2048x2048, .i1⟩
  | 37 => ⟨S1x1x1x2048x2048, .i1⟩
  | 38 => ⟨S_, .f32⟩
  | 39 => ⟨S_, .f32⟩
  | 40 => ⟨S8x4x1x2048x2048, .i1⟩
  | 41 => ⟨S8x4x1x2048x2048, .f32⟩
  | 42 => ⟨S8x4x1x2048x2048, .f32⟩
  | 43 => ⟨S_, .f32⟩
  | 44 => ⟨S8x4x1x2048, .f32⟩
  | 45 => ⟨S8x4x1x2048x1, .f32⟩
  | 46 => ⟨S8x4x1x2048x2048, .f32⟩
  | 47 => ⟨S8x4x1x2048x2048, .f32⟩
  | 48 => ⟨S8x4x1x2048x2048, .f32⟩
  | 49 => ⟨S_, .f32⟩
  | 50 => ⟨S8x4x1x2048, .f32⟩
  | 51 => ⟨S8x4x1x2048x1, .f32⟩
  | 52 => ⟨S8x4x1x2048x128, .f32⟩
  | 53 => ⟨S8x4x1x2048x128, .f32⟩
  | 54 => ⟨S8x4x1x2048x128, .f32⟩
  | 55 => ⟨S8x4x1x2048x1, .f32⟩
  | 56 => ⟨S8x4x1x2048x1, .f32⟩
  | 57 => ⟨S8x4x1x2048, .f32⟩
  | 58 => ⟨S8x4x2048x1x128, .f32⟩
  | 59 => ⟨S8x4x2048x128, .f32⟩
  | 60 => ⟨S8x4x2048x1, .f32⟩
  | 61 => ⟨S8x4x2048, .f32⟩
  | 62 => ⟨S8x12x4x512x128, .f32⟩
  | 63 => ⟨S8x4x4x512x128, .f32⟩
  | 64 => ⟨S8x4x4x512x128, .f32⟩
  | 65 => ⟨S8x4x4x512x128, .f32⟩
  | 66 => ⟨S512, .i32⟩
  | 67 => ⟨S1x512, .i32⟩
  | 68 => ⟨S512, .i32⟩
  | 69 => ⟨S512x1, .i32⟩
  | 70 => ⟨S512x512, .i32⟩
  | 71 => ⟨S512x512, .i32⟩
  | 72 => ⟨S512x512, .i32⟩
  | 73 => ⟨S512x512, .i32⟩
  | 74 => ⟨S_, .i32⟩
  | 75 => ⟨S512x512, .i32⟩
  | 76 => ⟨S512x512, .i32⟩
  | 77 => ⟨S512x512, .f32⟩
  | 78 => ⟨S4, .f32⟩
  | 79 => ⟨S4x1x1, .f32⟩
  | 80 => ⟨S4x1x1, .f32⟩
  | 81 => ⟨S1x512x512, .f32⟩
  | 82 => ⟨S4x512x512, .f32⟩
  | 83 => ⟨S4x512x512, .f32⟩
  | 84 => ⟨S4x512x512, .f32⟩
  | 85 => ⟨S8x4x4x512x512, .f32⟩
  | 86 => ⟨S_, .f32⟩
  | 87 => ⟨S8x4x4x512x512, .f32⟩
  | 88 => ⟨S8x4x4x512x512, .f32⟩
  | 89 => ⟨S1x4x1x512x512, .f32⟩
  | 90 => ⟨S8x4x4x512x512, .f32⟩
  | 91 => ⟨S8x4x4x512x512, .f32⟩
  | 92 => ⟨S_, .i32⟩
  | 93 => ⟨S512x512, .i32⟩
  | 94 => ⟨S512x512, .i1⟩
  | 95 => ⟨S1x1x1x512x512, .i1⟩
  | 96 => ⟨S_, .f32⟩
  | 97 => ⟨S_, .f32⟩
  | 98 => ⟨S8x4x4x512x512, .i1⟩
  | 99 => ⟨S8x4x4x512x512, .f32⟩
  | 100 => ⟨S8x4x4x512x512, .f32⟩
  | 101 => ⟨S_, .f32⟩
  | 102 => ⟨S8x4x4x512, .f32⟩
  | 103 => ⟨S8x4x4x512x1, .f32⟩
  | 104 => ⟨S8x4x4x512x512, .f32⟩
  | 105 => ⟨S8x4x4x512x512, .f32⟩
  | 106 => ⟨S8x4x4x512x512, .f32⟩
  | 107 => ⟨S_, .f32⟩
  | 108 => ⟨S8x4x4x512, .f32⟩
  | 109 => ⟨S8x4x4x512x1, .f32⟩
  | 110 => ⟨S8x4x4x512x128, .f32⟩
  | 111 => ⟨S8x4x4x512x128, .f32⟩
  | 112 => ⟨S8x4x4x512x128, .f32⟩
  | 113 => ⟨S8x4x4x512x1, .f32⟩
  | 114 => ⟨S8x4x4x512x1, .f32⟩
  | 115 => ⟨S8x4x4x512, .f32⟩
  | 116 => ⟨S8x4x512x4x128, .f32⟩
  | 117 => ⟨S8x4x2048x128, .f32⟩
  | 118 => ⟨S8x4x512x4, .f32⟩
  | 119 => ⟨S8x4x2048, .f32⟩
  | 120 => ⟨S8x12x16x128x128, .f32⟩
  | 121 => ⟨S8x4x16x128x128, .f32⟩
  | 122 => ⟨S8x4x16x128x128, .f32⟩
  | 123 => ⟨S8x4x16x128x128, .f32⟩
  | 124 => ⟨S128, .i32⟩
  | 125 => ⟨S1x128, .i32⟩
  | 126 => ⟨S128, .i32⟩
  | 127 => ⟨S128x1, .i32⟩
  | _ => ⟨S12, .f32⟩

abbrev hbmTy0_1 (i : Nat) : BufTy := match i % 128 with
  | 0 => ⟨S128x128, .i32⟩
  | 1 => ⟨S128x128, .i32⟩
  | 2 => ⟨S128x128, .i32⟩
  | 3 => ⟨S128x128, .i32⟩
  | 4 => ⟨S_, .i32⟩
  | 5 => ⟨S128x128, .i32⟩
  | 6 => ⟨S128x128, .i32⟩
  | 7 => ⟨S128x128, .f32⟩
  | 8 => ⟨S4, .f32⟩
  | 9 => ⟨S4x1x1, .f32⟩
  | 10 => ⟨S4x1x1, .f32⟩
  | 11 => ⟨S1x128x128, .f32⟩
  | 12 => ⟨S4x128x128, .f32⟩
  | 13 => ⟨S4x128x128, .f32⟩
  | 14 => ⟨S4x128x128, .f32⟩
  | 15 => ⟨S8x4x16x128x128, .f32⟩
  | 16 => ⟨S_, .f32⟩
  | 17 => ⟨S8x4x16x128x128, .f32⟩
  | 18 => ⟨S8x4x16x128x128, .f32⟩
  | 19 => ⟨S1x4x1x128x128, .f32⟩
  | 20 => ⟨S8x4x16x128x128, .f32⟩
  | 21 => ⟨S8x4x16x128x128, .f32⟩
  | 22 => ⟨S_, .i32⟩
  | 23 => ⟨S128x128, .i32⟩
  | 24 => ⟨S128x128, .i1⟩
  | 25 => ⟨S1x1x1x128x128, .i1⟩
  | 26 => ⟨S_, .f32⟩
  | 27 => ⟨S_, .f32⟩
  | 28 => ⟨S8x4x16x128x128, .i1⟩
  | 29 => ⟨S8x4x16x128x128, .f32⟩
  | 30 => ⟨S8x4x16x128x128, .f32⟩
  | 31 => ⟨S_, .f32⟩
  | 32 => ⟨S8x4x16x128, .f32⟩
  | 33 => ⟨S8x4x16x128x1, .f32⟩
  | 34 => ⟨S8x4x16x128x128, .f32⟩
  | 35 => ⟨S8x4x16x128x128, .f32⟩
  | 36 => ⟨S8x4x16x128x128, .f32⟩
  | 37 => ⟨S_, .f32⟩
  | 38 => ⟨S8x4x16x128, .f32⟩
  | 39 => ⟨S8x4x16x128x1, .f32⟩
  | 40 => ⟨S8x4x16x128x128, .f32⟩
  | 41 => ⟨S8x4x16x128x128, .f32⟩
  | 42 => ⟨S8x4x16x128x128, .f32⟩
  | 43 => ⟨S8x4x16x128x1, .f32⟩
  | 44 => ⟨S8x4x16x128x1, .f32⟩
  | 45 => ⟨S8x4x16x128, .f32⟩
  | 46 => ⟨S8x4x128x16x128, .f32⟩
  | 47 => ⟨S8x4x2048x128, .f32⟩
  | 48 => ⟨S8x4x128x16, .f32⟩
  | 49 => ⟨S8x4x2048, .f32⟩
  | 50 => ⟨S1x8x4x2048, .f32⟩
  | 51 => ⟨S1x8x4x2048, .f32⟩
  | 52 => ⟨S1x8x4x2048, .f32⟩
  | 53 => ⟨S3x8x4x2048, .f32⟩
  | 54 => ⟨S_, .f32⟩
  | 55 => ⟨S8x4x2048, .f32⟩
  | 56 => ⟨S1x8x4x2048, .f32⟩
  | 57 => ⟨S3x8x4x2048, .f32⟩
  | 58 => ⟨S3x8x4x2048, .f32⟩
  | 59 => ⟨S3x8x4x2048, .f32⟩
  | 60 => ⟨S1x8x4x2048x128, .f32⟩
  | 61 => ⟨S1x8x4x2048x128, .f32⟩
  | 62 => ⟨S1x8x4x2048x128, .f32⟩
  | 63 => ⟨S3x8x4x2048x128, .f32⟩
  | 64 => ⟨S8x2048x4x128, .f32⟩
  | 65 => ⟨S_, .f32⟩
  | 66 => ⟨S8x4x2048, .f32⟩
  | 67 => ⟨S8x2048x4, .f32⟩
  | 68 => ⟨S8x2048x4x1, .f32⟩
  | 69 => ⟨S8x2048x4x128, .f32⟩
  | 70 => ⟨S8x2048x4x128, .f32⟩
  | 71 => ⟨S8x2048x512, .f32⟩
  | 72 => ⟨S8x2048x512, .bf16⟩
  | _ => ⟨S12, .f32⟩

abbrev hbmTy (i : Nat) : BufTy := match i / 128 with
  | 0 => hbmTy0_0 i
  | 1 => hbmTy0_1 i
  | _ => ⟨S12, .f32⟩

abbrev bufTy : (tb : Table) → Fin (tcTables nBuf tb) → BufTy
  | .hbm, ⟨i, _⟩ => hbmTy i
  | _, _ => ⟨S12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_4 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_5 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_c_6 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_7 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v80 : Ref sig .tc := ⟨.hbm, 100, rfl⟩
abbrev main_cst_8 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_9 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_c_10 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_11 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_c_12 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_13 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v129 : Ref sig .tc := ⟨.hbm, 158, rfl⟩
abbrev main_cst_14 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_15 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_cst_16 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_17 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩

abbrev nD : Nat := 1
abbrev τ : Topo := Topo.v7x

variable {F : FTy → Type} [FloatOps F]
-- ==== Kernel2.lean ====
abbrev S40960x1024 : Shape := ⟨2, ![40960, 1024]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond5 (i : grid0.Coords) : BitVec 1 :=
  let arg1 : BitVec 32 := BitVec.ofNat 32 (i 1).val
  let c6_i32_24 : BitVec 32 := 6#32
  let v42 : BitVec 1 := Scalar.cmpi .eq arg1 c6_i32_24
  let v43 : BitVec 32 := Scalar.extui v42
  let c0_i32_25 : BitVec 32 := 0#32
  let v44 : BitVec 1 := Scalar.cmpi .ne v43 c0_i32_25
  v44

def k0_cond6 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c6_i32 : BitVec 32 := 6#32
  let v6 : BitVec 1 := Scalar.cmpi .eq arg1 c6_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40960x1024 : Shape := ⟨2, ![40960, 1024]⟩
abbrev S40 : Shape := ⟨1, ![40]⟩
abbrev S1 : Shape := ⟨1, ![1]⟩
abbrev S8x1024x3584 : Shape := ⟨3, ![8, 1024, 3584]⟩
abbrev S8x3584x1024 : Shape := ⟨3, ![8, 3584, 1024]⟩
abbrev S40x1 : Shape := ⟨2, ![40, 1]⟩
abbrev S8 : Shape := ⟨1, ![8]⟩
abbrev S1x8 : Shape := ⟨2, ![1, 8]⟩
abbrev S40x8 : Shape := ⟨2, ![40, 8]⟩
abbrev S40x1024x8 : Shape := ⟨3, ![40, 1024, 8]⟩
abbrev S40960x8 : Shape := ⟨2, ![40960, 8]⟩
abbrev S40960x8x3584 : Shape := ⟨3, ![40960, 8, 3584]⟩
abbrev S_ : Shape := ⟨0, ![]⟩
abbrev S8x40960x1024 : Shape := ⟨3, ![8, 40960, 1024]⟩
abbrev S8x40960 : Shape := ⟨2, ![8, 40960]⟩
abbrev S8x40960x1 : Shape := ⟨3, ![8, 40960, 1]⟩

abbrev nBuf : Space → Nat
  | .hbm => 40
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40, .i32⟩
  | .hbm, ⟨7, _⟩ => ⟨S40, .i32⟩
  | .hbm, ⟨8, _⟩ => ⟨S40, .i1⟩
  | .hbm, ⟨9, _⟩ => ⟨S40x1, .i32⟩
  | .hbm, ⟨10, _⟩ => ⟨S8, .i32⟩
  | .hbm, ⟨11, _⟩ => ⟨S1x8, .i32⟩
  | .hbm, ⟨12, _⟩ => ⟨S40x8, .i32⟩
  | .hbm, ⟨13, _⟩ => ⟨S40x8, .i32⟩
  | .hbm, ⟨14, _⟩ => ⟨S40x8, .i1⟩
  | .hbm, ⟨15, _⟩ => ⟨S40x1, .i1⟩
  | .hbm, ⟨16, _⟩ => ⟨S40x8, .i1⟩
  | .hbm, ⟨17, _⟩ => ⟨S40x8, .i1⟩
  | .hbm, ⟨18, _⟩ => ⟨S40x8, .f32⟩
  | .hbm, ⟨19, _⟩ => ⟨S40x1024x8, .f32⟩
  | .hbm, ⟨20, _⟩ => ⟨S40960x8, .f32⟩
  | .hbm, ⟨21, _⟩ => ⟨S40960x8x3584, .f32⟩
  | .hbm, ⟨22, _⟩ => ⟨S40960x8x3584, .f32⟩
  | .hbm, ⟨23, _⟩ => ⟨S40960x8x3584, .f32⟩
  | .hbm, ⟨24, _⟩ => ⟨S_, .f32⟩
  | .hbm, ⟨25, _⟩ => ⟨S40960x8x3584, .f32⟩
  | .hbm, ⟨26, _⟩ => ⟨S40960x8x3584, .f32⟩
  | .hbm, ⟨27, _⟩ => ⟨S_, .f32⟩
  | .hbm, ⟨28, _⟩ => ⟨S40960x8x3584, .f32⟩
  | .hbm, ⟨29, _⟩ => ⟨S40960x8x3584, .f32⟩
  | .hbm, ⟨30, _⟩ => ⟨S40960x8x3584, .f32⟩
  | .hbm, ⟨31, _⟩ => ⟨S40960x8x3584, .f32⟩
  | .hbm, ⟨32, _⟩ => ⟨S40960x8x3584, .f32⟩
  | .hbm, ⟨33, _⟩ => ⟨S8x40960x1024, .f32⟩
  | .hbm, ⟨34, _⟩ => ⟨S8x40960, .f32⟩
  | .hbm, ⟨35, _⟩ => ⟨S8x40960x1, .f32⟩
  | .hbm, ⟨36, _⟩ => ⟨S8x40960x1024, .f32⟩
  | .hbm, ⟨37, _⟩ => ⟨S8x40960x1024, .f32⟩
  | .hbm, ⟨38, _⟩ => ⟨S_, .f32⟩
  | .hbm, ⟨39, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 11], ![false, false]⟩

def k0_cond3 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16384x1024 : Shape := ⟨2, ![16384, 1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x2816, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Proof.KernelIdealLoops.lean ====
/-
  The three counted loops of the dilated attention body: each trip attends one tile of 128 query rows of one dilation
  group and stores the tile's output and its log-sum-exp into the two scratch buffers. The invariants list the pieces
  the trips before the present one have stored.
-/
module

public import proofs.«01_k».proof.Proof.Gen.KernelIdeal.Frame
public import proofs.«01_k».proof.Proof.Gen.KernelIdeal.Loops

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What one trip stores -/

/-- The list of the values of `p` at the indices below `n`, the last first. -/
def below {α : Type} {N : ℕ} (p : Fin N → α) : ℕ → List α
  | 0 => []
  | n + 1 => if h : n < N then p ⟨n, h⟩ :: below p n else below p n

theorem below_succ {α : Type} {N : ℕ} (p : Fin N → α) (k : Fin N) : below p (k.val + 1) = p k :: below p k.val := by
  rw [below, dif_pos k.isLt]

/-- Group 0, trip `k`: the tile of queries, and the window of keys or values around it. -/
abbrev qt1 (X : Vec F S1x1x1x2048x128 .bf16) (k : Fin k0_t1_loop.trips) : Vec F S1x1x1x128x128 .bf16 :=
  View.ld X (Rect.unit (s := S1x1x1x2048x128) (k0_off2 k) S1x1x1x128x128.size (k0_off2_inb k))
abbrev kt1 (X : Vec F S1x1x1x2048x128 .bf16) (k : Fin k0_t1_loop.trips) : Vec F S1x1x1x256x128 .bf16 :=
  View.ld X (Rect.unit (s := S1x1x1x2048x128) (k0_off3 k) S1x1x1x256x128.size (k0_off3_inb k))
/-- Group 1, trip `k`. -/
abbrev qt2 (X : Vec F S1x1x4x512x128 .bf16) (k : Fin k0_t2_loop.trips) : Vec F S1x1x1x128x128 .bf16 :=
  View.ld X (Rect.unit (s := S1x1x4x512x128) (k0_off5 k) S1x1x1x128x128.size (k0_off5_inb k))
abbrev kt2 (X : Vec F S1x1x4x512x128 .bf16) (k : Fin k0_t2_loop.trips) : Vec F S1x1x1x256x128 .bf16 :=
  View.ld X (Rect.unit (s := S1x1x4x512x128) (k0_off6 k) S1x1x1x256x128.size (k0_off6_inb k))
/-- Group 2, trip `k`. -/
abbrev qt3 (X : Vec F S1x1x16x128x128 .bf16) (k : Fin k0_t3_loop.trips) : Vec F S1x1x1x128x128 .bf16 :=
  View.ld X (Rect.unit (s := S1x1x16x128x128) (k0_off8 k) S1x1x1x128x128.size (k0_off8_inb k))
abbrev kt3 (X : Vec F S1x1x16x128x128 .bf16) (k : Fin k0_t3_loop.trips) : Vec F S1x1x1x128x128 .bf16 :=
  View.ld X (Rect.unit (s := S1x1x16x128x128) (k0_off9 k) S1x1x1x128x128.size (k0_off9_inb k))

/-- The tile's attention output, per group, from the group's slope, queries, keys and values. -/
def ov1 (v : Elt F .f32) (X Y Z : Vec F S1x1x1x2048x128 .bf16) (k : Fin k0_t1_loop.trips) : FVec F S1x128x128 .f32 :=
  k0_pay18 (k0_pay2 (kt1 Z k)) (k0_pay5 (k0_pay14 v) k0_pay15 0#32 1#32 k (qt1 X k) (kt1 Y k))
def ov2 (v : Elt F .f32) (X Y Z : Vec F S1x1x4x512x128 .bf16) (k : Fin k0_t2_loop.trips) : FVec F S128x128 .f32 :=
  k0_pay24 (k0_pay6 (kt2 Z k)) (k0_pay9 (k0_pay20 v) k0_pay21 0#32 1#32 k (qt2 X k) (kt2 Y k))
def ov3 (v : Elt F .f32) (X Y Z : Vec F S1x1x16x128x128 .bf16) (k : Fin k0_t3_loop.trips) : FVec F S128x128 .f32 :=
  k0_pay30 (k0_pay10 (kt3 Z k)) (k0_pay13 (k0_pay26 v) k0_pay27 0#32 1#32 k (qt3 X k) (kt3 Y k))
/-- The tile's log-sum-exp, spread over the lanes. -/
def lv1 (v : Elt F .f32) (X Y : Vec F S1x1x1x2048x128 .bf16) (k : Fin k0_t1_loop.trips) : FVec F S1x128x128 .f32 :=
  k0_pay19 (k0_pay4 (k0_pay14 v) k0_pay15 0#32 1#32 k (qt1 X k) (kt1 Y k)) (k0_pay5 (k0_pay14 v) k0_pay15 0#32 1#32 k (qt1 X k) (kt1 Y k))
def lv2 (v : Elt F .f32) (X Y : Vec F S1x1x4x512x128 .bf16) (k : Fin k0_t2_loop.trips) : FVec F S128x128 .f32 :=
  k0_pay25 (k0_pay8 (k0_pay20 v) k0_pay21 0#32 1#32 k (qt2 X k) (kt2 Y k)) (k0_pay9 (k0_pay20 v) k0_pay21 0#32 1#32 k (qt2 X k) (kt2 Y k))
def lv3 (v : Elt F .f32) (X Y : Vec F S1x1x16x128x128 .bf16) (k : Fin k0_t3_loop.trips) : FVec F S128x128 .f32 :=
  k0_pay31 (k0_pay12 (k0_pay26 v) k0_pay27 0#32 1#32 k (qt3 X k) (kt3 Y k)) (k0_pay13 (k0_pay26 v) k0_pay27 0#32 1#32 k (qt3 X k) (kt3 Y k))

/-- Where trip `k` of each group stores in a scratch buffer: group 0 a run of rows, groups 1 and 2 every fourth or
    sixteenth row of their plane. -/
abbrev rc1 (k : Fin k0_t1_loop.trips) : Rect S3x2048x128 := Rect.unit (s := S3x2048x128) (k0_off4 k) S1x128x128.size (k0_off4_inb k)
abbrev rp2 (k : Fin k0_t2_loop.trips) : Rect S2048x128 := ⟨(⟨k0_off7 k, S128x128.size, ![4, 1], k0_off7_inb k⟩ : LoadRect S2048x128), spos_4_1⟩
abbrev rp3 (k : Fin k0_t3_loop.trips) : Rect S2048x128 := ⟨(⟨k0_off10 k, S128x128.size, ![16, 1], k0_off10_inb k⟩ : LoadRect S2048x128), spos_16_1⟩
theorem hs3 : ∀ a : Fin 2, ![1, 2048, 128] a.succ = ![2048, 128] a := by decide
abbrev rc2 (k : Fin k0_t2_loop.trips) : Rect S3x2048x128 :=
  (Rect.unit (s := S3x2048x128) ![1, 0, 0] S1x2048x128.size inb_S3x2048x128_S1x2048x128_1_0_0).within
    ((rp2 k).consLift ![1, 2048, 128] rfl hs3) (fun _ => rfl)
abbrev rc3 (k : Fin k0_t3_loop.trips) : Rect S3x2048x128 :=
  (Rect.unit (s := S3x2048x128) ![2, 0, 0] S1x2048x128.size inb_S3x2048x128_S1x2048x128_2_0_0).within
    ((rp3 k).consLift ![1, 2048, 128] rfl hs3) (fun _ => rfl)

/-- The piece trip `k` writes, per group, from the payload. -/
def pc1 (w : Fin k0_t1_loop.trips → FVec F S1x128x128 .f32) (k : Fin k0_t1_loop.trips) : View.Piece (Elt F) S3x2048x128 .f32 := ⟨rc1 k, w k⟩
def pc2 (w : Fin k0_t2_loop.trips → FVec F S128x128 .f32) (k : Fin k0_t2_loop.trips) : View.Piece (Elt F) S3x2048x128 .f32 :=
  ⟨rc2 k, (Rect.payAlong ((rp2 k).numel_consLift ![1, 2048, 128] rfl hs3) (w k) :)⟩
def pc3 (w : Fin k0_t3_loop.trips → FVec F S128x128 .f32) (k : Fin k0_t3_loop.trips) : View.Piece (Elt F) S3x2048x128 .f32 :=
  ⟨rc3 k, (Rect.payAlong ((rp3 k).numel_consLift ![1, 2048, 128] rfl hs3) (w k) :)⟩

/-! ## The loops by their invariants -/

section Loops

variable (c : Dev nD) (i : grid0.Coords)
  (arg2 : Memref sig .tc .smem S12 .f32) (harg2 : arg2.IsWhole)
  (arg3 : Memref sig .tc .vmem S1x1x1x2048x128 .bf16) (harg3 : arg3.IsWhole)
  (arg4 : Memref sig .tc .vmem S1x1x1x2048x128 .bf16) (harg4 : arg4.IsWhole)
  (arg5 : Memref sig .tc .vmem S1x1x1x2048x128 .bf16) (harg5 : arg5.IsWhole)
  (arg6 : Memref sig .tc .vmem S1x1x4x512x128 .bf16) (harg6 : arg6.IsWhole)
  (arg7 : Memref sig .tc .vmem S1x1x4x512x128 .bf16) (harg7 : arg7.IsWhole)
  (arg8 : Memref sig .tc .vmem S1x1x4x512x128 .bf16) (harg8 : arg8.IsWhole)
  (arg9 : Memref sig .tc .vmem S1x1x16x128x128 .bf16) (harg9 : arg9.IsWhole)
  (arg10 : Memref sig .tc .vmem S1x1x16x128x128 .bf16) (harg10 : arg10.IsWhole)
  (arg11 : Memref sig .tc .vmem S1x1x16x128x128 .bf16) (harg11 : arg11.IsWhole)
  (arg12 : Memref sig .tc .vmem S1x2048x128 .bf16) (harg12 : arg12.IsWhole)
  (arg13 : Memref sig .tc .vmem S3x2048x128 .f32) (harg13 : arg13.IsWhole)
  (arg14 : Memref sig .tc .vmem S3x2048x128 .f32) (harg14 : arg14.IsWhole)
variable (v : Elt F .f32) (E : Set ℕ)
  (f3 : BufTy.Contents (Elt F) arg3.view.ty) (f4 : BufTy.Contents (Elt F) arg4.view.ty) (f5 : BufTy.Contents (Elt F) arg5.view.ty)
  (f6 : BufTy.Contents (Elt F) arg6.view.ty) (f7 : BufTy.Contents (Elt F) arg7.view.ty) (f8 : BufTy.Contents (Elt F) arg8.view.ty)
  (f9 : BufTy.Contents (Elt F) arg9.view.ty) (f10 : BufTy.Contents (Elt F) arg10.view.ty) (f11 : BufTy.Contents (Elt F) arg11.view.ty)
  (G13 : BufTy.Contents (Elt F) arg13.view.ty) (G14 : BufTy.Contents (Elt F) arg14.view.ty)

/-- Group 1's loop: before trip `k` the scratch buffers hold the pieces of the trips before it over what they held at the loop's start. -/
@[sl_loop] abbrev J2 : LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v where
  inv k _ := iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
    ∗ (∃ f, (arg13.view.loc (c : Thread nD τ) ↦[arg13.view.set]{fullShare} f) ∗ ⌜f = arg13.view.writes (Elt F) G13 (below (pc2 (ov2 v (arg6.view.read (Elt F) f6) (arg7.view.read (Elt F) f7) (arg8.view.read (Elt F) f8))) k)⌝)
    ∗ (∃ f, (arg14.view.loc (c : Thread nD τ) ↦[arg14.view.set]{fullShare} f) ∗ ⌜f = arg14.view.writes (Elt F) G14 (below (pc2 (lv2 v (arg6.view.read (Elt F) f6) (arg7.view.read (Elt F) f7))) k)⌝))
  step k acc := by
    have hk : k.val < 16 := Nat.lt_of_lt_of_le k.isLt k0_t2_abs.2.1
    unfold k0_t2_body
    iintro ⟨Hq, Hk, Hv, ⟨%g13, H13, %h13⟩, ⟨%g14, H14, %h14⟩⟩
    set_option sl_exec.squeezeSlice true in
    sl_exec
    sl_step
    isplitl [Hq]; · iexact Hq
    isplitl [Hk]; · iexact Hk
    isplitl [Hv]; · iexact Hv
    isplitl [H13]
    · iexists _; isplitl [H13]; · iexact H13
      ipureintro
      rw [below_succ, h13, View.writes_cons, View.writes_cons, View.writes_nil]
      rfl
    iexists _; isplitl [H14]; · iexact H14
    ipureintro
    rw [below_succ, h14, View.writes_cons, View.writes_cons, View.writes_nil]
    rfl

/-- Group 2's loop: before trip `k` the scratch buffers hold the pieces of the trips before it over what they held at the loop's start. -/
@[sl_loop] abbrev J3 : LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v where
  inv k _ := iprop((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
    ∗ (∃ f, (arg13.view.loc (c : Thread nD τ) ↦[arg13.view.set]{fullShare} f) ∗ ⌜f = arg13.view.writes (Elt F) G13 (below (pc3 (ov3 v (arg9.view.read (Elt F) f9) (arg10.view.read (Elt F) f10) (arg11.view.read (Elt F) f11))) k)⌝)
    ∗ (∃ f, (arg14.view.loc (c : Thread nD τ) ↦[arg14.view.set]{fullShare} f) ∗ ⌜f = arg14.view.writes (Elt F) G14 (below (pc3 (lv3 v (arg9.view.read (Elt F) f9) (arg10.view.read (Elt F) f10))) k)⌝))
  step k acc := by
    have hk : k.val < 16 := Nat.lt_of_lt_of_le k.isLt k0_t3_abs.2.1
    unfold k0_t3_body
    iintro ⟨Hq, Hk, Hv, ⟨%g13, H13, %h13⟩, ⟨%g14, H14, %h14⟩⟩
    set_option sl_exec.squeezeSlice true in
    sl_exec
    sl_step
    isplitl [Hq]; · iexact Hq
    isplitl [Hk]; · iexact Hk
    isplitl [Hv]; · iexact Hv
    isplitl [H13]
    · iexists _; isplitl [H13]; · iexact H13
      ipureintro
      rw [below_succ, h13, View.writes_cons, View.writes_cons, View.writes_nil]
      rfl
    iexists _; isplitl [H14]; · iexact H14
    ipureintro
    rw [below_succ, h14, View.writes_cons, View.writes_cons, View.writes_nil]
    rfl
end Loops

end Cert.KernelIdeal.Att
-- ==== Proof.KernelIdealScratch.lean ====
/-
  What the two scratch buffers of the dilated attention hold after the three loops: every row of every group's plane
  is some trip's, so the buffers are closed functions of the slopes, the queries, the keys and the values.
-/
module

public import proofs.«01_k».proof.Proof.KernelIdealLoops
public import Idealize.ShloMosaic.Lib.ValueIdxCore
public import Idealize.ShloMosaic.Lib.Pointwise.Index

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Reading a list of pieces -/

/-- A place no piece of the list holds reads what was there before. -/
theorem read_below_miss {S : Shape} {e : EltTy} {N : ℕ} (m : Memref sig .tc .vmem S e) (f : BufTy.Contents (Elt F) m.view.ty)
    (p : Fin N → View.Piece (Elt F) S e) (y : S.Idx) (hy : ∀ j, y ∉ (p j).1.set) (n : ℕ) (L : List (View.Piece (Elt F) S e)) :
    m.view.read (Elt F) (m.view.writes (Elt F) f (below p n ++ L)) y = m.view.read (Elt F) (m.view.writes (Elt F) f L) y := by
  induction n with
  | zero => rfl
  | succ n ih =>
    rw [below]
    split
    · rw [List.cons_append, View.read_writes_cons_miss _ _ _ _ _ (hy _), ih]
    · exact ih

/-- A place one piece of the list holds, and no other, reads that piece's payload. -/
theorem read_below_hit {S : Shape} {e : EltTy} {N : ℕ} (m : Memref sig .tc .vmem S e) (f : BufTy.Contents (Elt F) m.view.ty)
    (p : Fin N → View.Piece (Elt F) S e) (y : S.Idx) (k : Fin N) (hy : ∀ j, j ≠ k → y ∉ (p j).1.set) (x : (p k).1.shape.Idx)
    (hx : (p k).1.emb x = y) (n : ℕ) (hn : k.val < n) (L : List (View.Piece (Elt F) S e)) :
    m.view.read (Elt F) (m.view.writes (Elt F) f (below p n ++ L)) y = (p k).2 x := by
  induction n with
  | zero => omega
  | succ n ih =>
    rw [below]
    split
    · rename_i h
      rw [List.cons_append]
      by_cases hk : k = ⟨n, h⟩
      · subst hk; exact View.read_writes_cons_hit _ _ _ _ _ x y hx
      · rw [View.read_writes_cons_miss _ _ _ _ _ (hy _ (Ne.symm hk))]
        exact ih (by have : k.val ≠ n := fun h' => hk (Fin.ext h'); omega)
    · exact ih (by have := k.isLt; omega)

/-! ## Where the trips store -/

theorem trips1 : k0_t1_loop.trips = 16 := by decide +kernel
theorem trips2 : k0_t2_loop.trips = 16 := by decide +kernel
theorem trips3 : k0_t3_loop.trips = 16 := by decide +kernel

theorem off4_eq : ∀ k : Fin k0_t1_loop.trips, k0_off4 k = ![0, 128 * k.val, 0] := by decide +kernel
theorem off7_eq : ∀ k : Fin k0_t2_loop.trips, k0_off7 k = ![(k.val % 4) * 512 + k.val / 4, 0] := by decide +kernel
theorem off10_eq : ∀ k : Fin k0_t3_loop.trips, k0_off10 k = ![k.val, 0] := by decide +kernel

/-- The trip that stores row `s` of a group, and the row's place in that trip's tile. -/
def tr1 (s : Fin 2048) : Fin k0_t1_loop.trips := ⟨s.val / 128, by rw [trips1]; omega⟩
def tr2 (s : Fin 2048) : Fin k0_t2_loop.trips := ⟨4 * (s.val % 4) + s.val / 512, by rw [trips2]; omega⟩
def tr3 (s : Fin 2048) : Fin k0_t3_loop.trips := ⟨s.val % 16, by rw [trips3]; omega⟩
def rw1 (s : Fin 2048) : Fin 128 := ⟨s.val % 128, by omega⟩
def rw2 (s : Fin 2048) : Fin 128 := ⟨s.val / 4 % 128, by omega⟩
def rw3 (s : Fin 2048) : Fin 128 := ⟨s.val / 16, by omega⟩

/-- The contents of a scratch buffer from the payloads of the three groups' trips. -/
def scr (w1 : Fin k0_t1_loop.trips → FVec F S1x128x128 .f32) (w2 : Fin k0_t2_loop.trips → FVec F S128x128 .f32)
    (w3 : Fin k0_t3_loop.trips → FVec F S128x128 .f32) : Vec F S3x2048x128 .f32 := fun y =>
  if (y 0).val = 0 then w1 (tr1 (y 1)) (ix3 0 (rw1 (y 1)) (y 2))
  else if (y 0).val = 1 then w2 (tr2 (y 1)) (ix2 (rw2 (y 1)) (y 2))
  else w3 (tr3 (y 1)) (ix2 (rw3 (y 1)) (y 2))

/-- What a place held by trip `k`'s piece has for its coordinates, group by group. -/
theorem mem1 (w : Fin k0_t1_loop.trips → FVec F S1x128x128 .f32) (k : Fin k0_t1_loop.trips) (y : S3x2048x128.Idx)
    (h : y ∈ (pc1 (F := F) w k).1.set) : (y 0).val = 0 ∧ (y 1).val / 128 = k.val := by
  obtain ⟨j0, hj0, e0⟩ := (LoadRect.mem_set _).mp h 0
  obtain ⟨j1, hj1, e1⟩ := (LoadRect.mem_set _).mp h 1
  change j0 < 1 at hj0; change j1 < 128 at hj1
  change (y 0).val = k0_off4 k 0 + 1 * j0 at e0
  change (y 1).val = k0_off4 k 1 + 1 * j1 at e1
  rw [off4_eq k] at e0 e1
  change (y 0).val = 0 + 1 * j0 at e0
  change (y 1).val = 128 * k.val + 1 * j1 at e1
  omega

theorem mem2 (w : Fin k0_t2_loop.trips → FVec F S128x128 .f32) (k : Fin k0_t2_loop.trips) (y : S3x2048x128.Idx)
    (h : y ∈ (pc2 (F := F) w k).1.set) : (y 0).val = 1 ∧ 4 * ((y 1).val % 4) + (y 1).val / 512 = k.val := by
  obtain ⟨j0, hj0, e0⟩ := (LoadRect.mem_set _).mp h 0
  obtain ⟨j1, hj1, e1⟩ := (LoadRect.mem_set _).mp h 1
  change j0 < 1 at hj0; change j1 < 128 at hj1
  change (y 0).val = (1 + 0) + 1 * j0 at e0
  change (y 1).val = (0 + k0_off7 k 0) + 4 * j1 at e1
  rw [off7_eq k] at e1
  change (y 1).val = 0 + (k.val % 4 * 512 + k.val / 4) + 4 * j1 at e1
  have hk : k.val < 16 := lt_of_lt_of_eq k.isLt trips2
  have e5 : (y 1).val / 512 = k.val % 4 := by omega
  have e6 : (y 1).val % 4 = k.val / 4 := by omega
  omega

theorem mem3 (w : Fin k0_t3_loop.trips → FVec F S128x128 .f32) (k : Fin k0_t3_loop.trips) (y : S3x2048x128.Idx)
    (h : y ∈ (pc3 (F := F) w k).1.set) : (y 0).val = 2 ∧ (y 1).val % 16 = k.val := by
  obtain ⟨j0, hj0, e0⟩ := (LoadRect.mem_set _).mp h 0
  obtain ⟨j1, hj1, e1⟩ := (LoadRect.mem_set _).mp h 1
  change j0 < 1 at hj0; change j1 < 128 at hj1
  change (y 0).val = (2 + 0) + 1 * j0 at e0
  change (y 1).val = (0 + k0_off10 k 0) + 16 * j1 at e1
  rw [off10_eq k] at e1
  change (y 1).val = 0 + k.val + 16 * j1 at e1
  have hk : k.val < 16 := lt_of_lt_of_eq k.isLt trips3
  omega

/-- A strided piece's payload at a place. -/
theorem pc2_val (w : Fin k0_t2_loop.trips → FVec F S128x128 .f32) (k : Fin k0_t2_loop.trips) (a l : Fin 128) :
    (pc2 (F := F) w k).2 (ix3 (⟨0, Nat.one_pos⟩ : Fin 1) a l) = w k (ix2 a l) :=
  Rect.payAlong_consLift (r := rp2 k) ![1, 2048, 128] rfl hs3 (w k) _ _ (ix2 a l) (fun i => match i with | ⟨0, _⟩ => rfl | ⟨1, _⟩ => rfl)

theorem pc3_val (w : Fin k0_t3_loop.trips → FVec F S128x128 .f32) (k : Fin k0_t3_loop.trips) (a l : Fin 128) :
    (pc3 (F := F) w k).2 (ix3 (⟨0, Nat.one_pos⟩ : Fin 1) a l) = w k (ix2 a l) :=
  Rect.payAlong_consLift (r := rp3 k) ![1, 2048, 128] rfl hs3 (w k) _ _ (ix2 a l) (fun i => match i with | ⟨0, _⟩ => rfl | ⟨1, _⟩ => rfl)

/-- After the three loops a scratch buffer reads as `scr` of the payloads, whatever it held before. -/
theorem read_scr (m : Memref sig .tc .vmem S3x2048x128 .f32) (f : BufTy.Contents (Elt F) m.view.ty)
    (w1 : Fin k0_t1_loop.trips → FVec F S1x128x128 .f32) (w2 : Fin k0_t2_loop.trips → FVec F S128x128 .f32)
    (w3 : Fin k0_t3_loop.trips → FVec F S128x128 .f32) (n1 n2 n3 : ℕ) (h1 : k0_t1_loop.trips ≤ n1) (h2 : k0_t2_loop.trips ≤ n2) (h3 : k0_t3_loop.trips ≤ n3) :
    m.view.read (Elt F) (m.view.writes (Elt F) f (below (pc3 w3) n3 ++ (below (pc2 w2) n2 ++ below (pc1 w1) n1))) = scr w1 w2 w3 := by
  funext y
  have hy0 : (y 0).val < 3 := (y 0).isLt
  have hy1 : (y 1).val < 2048 := (y 1).isLt
  have hy2 : (y 2).val < 128 := (y 2).isLt
  by_cases g2 : (y 0).val = 2
  · have hne : ∀ j, j ≠ tr3 (y 1) → y ∉ (pc3 (F := F) w3 j).1.set := fun j hj hm =>
      hj (Fin.ext (mem3 w3 j y hm).2.symm)
    rw [read_below_hit m f (pc3 w3) y (tr3 (y 1)) hne (ix3 (⟨0, Nat.one_pos⟩ : Fin 1) (rw3 (y 1)) (y 2)) ?_ n3 (lt_of_lt_of_le (tr3 (y 1)).isLt h3)]
    · rw [scr, if_neg (by omega), if_neg (by omega)]
      exact pc3_val w3 _ _ _
    · apply Rect.emb_eq_of_coords
      intro a
      fin_cases a
      · change (y 0).val = (2 + 0) + 1 * 0
        omega
      · change (y 1).val = (0 + k0_off10 (tr3 (y 1)) 0) + 16 * ((y 1).val / 16)
        rw [off10_eq]
        change (y 1).val = 0 + (y 1).val % 16 + 16 * ((y 1).val / 16)
        omega
      · change (y 2).val = (0 + k0_off10 (tr3 (y 1)) 1) + 1 * (y 2).val
        rw [off10_eq]
        change (y 2).val = (0 + 0) + 1 * (y 2).val
        omega
  rw [read_below_miss m f (pc3 w3) y (fun j hm => g2 (mem3 w3 j y hm).1)]
  by_cases g1 : (y 0).val = 1
  · have hne : ∀ j, j ≠ tr2 (y 1) → y ∉ (pc2 (F := F) w2 j).1.set := fun j hj hm =>
      hj (Fin.ext (mem2 w2 j y hm).2.symm)
    rw [read_below_hit m f (pc2 w2) y (tr2 (y 1)) hne (ix3 (⟨0, Nat.one_pos⟩ : Fin 1) (rw2 (y 1)) (y 2)) ?_ n2 (lt_of_lt_of_le (tr2 (y 1)).isLt h2)]
    · rw [scr, if_neg (by omega), if_pos g1]
      exact pc2_val w2 _ _ _
    · apply Rect.emb_eq_of_coords
      intro a
      fin_cases a
      · change (y 0).val = (1 + 0) + 1 * 0
        omega
      · change (y 1).val = (0 + k0_off7 (tr2 (y 1)) 0) + 4 * ((y 1).val / 4 % 128)
        rw [off7_eq]
        change (y 1).val = 0 + ((4 * ((y 1).val % 4) + (y 1).val / 512) % 4 * 512 + (4 * ((y 1).val % 4) + (y 1).val / 512) / 4) + 4 * ((y 1).val / 4 % 128)
        have h4 := Nat.div_div_eq_div_mul (y 1).val 4 128
        have h5 : (4 * ((y 1).val % 4) + (y 1).val / 512) % 4 = (y 1).val / 512 := by omega
        have h6 : (4 * ((y 1).val % 4) + (y 1).val / 512) / 4 = (y 1).val % 4 := by omega
        rw [h5, h6]
        omega
      · change (y 2).val = (0 + k0_off7 (tr2 (y 1)) 1) + 1 * (y 2).val
        rw [off7_eq]
        change (y 2).val = (0 + 0) + 1 * (y 2).val
        omega
  rw [read_below_miss m f (pc2 w2) y (fun j hm => g1 (mem2 w2 j y hm).1)]
  have g0 : (y 0).val = 0 := by omega
  have hne : ∀ j, j ≠ tr1 (y 1) → y ∉ (pc1 (F := F) w1 j).1.set := fun j hj hm =>
    hj (Fin.ext (mem1 w1 j y hm).2.symm)
  rw [← List.append_nil (below (pc1 w1) n1),
    read_below_hit m f (pc1 w1) y (tr1 (y 1)) hne (ix3 0 (rw1 (y 1)) (y 2)) ?_ n1 (lt_of_lt_of_le (tr1 (y 1)).isLt h1)]
  · rw [scr, if_pos g0]; rfl
  · apply Rect.emb_eq_of_coords
    intro a
    fin_cases a
    · change (y 0).val = k0_off4 (tr1 (y 1)) 0 + 1 * 0
      rw [off4_eq]
      change (y 0).val = 0 + 1 * 0
      omega
    · change (y 1).val = k0_off4 (tr1 (y 1)) 1 + 1 * ((y 1).val % 128)
      rw [off4_eq]
      change (y 1).val = 128 * ((y 1).val / 128) + 1 * ((y 1).val % 128)
      omega
    · change (y 2).val = k0_off4 (tr1 (y 1)) 2 + 1 * (y 2).val
      rw [off4_eq]
      change (y 2).val = 0 + 1 * (y 2).val
      omega

/-! ## The part of the body that holds the loops -/

section Part4

variable (c : Dev nD) (i : grid0.Coords)
  (arg2 : Memref sig .tc .smem S12 .f32) (harg2 : arg2.IsWhole)
  (arg3 : Memref sig .tc .vmem S1x1x1x2048x128 .bf16) (harg3 : arg3.IsWhole)
  (arg4 : Memref sig .tc .vmem S1x1x1x2048x128 .bf16) (harg4 : arg4.IsWhole)
  (arg5 : Memref sig .tc .vmem S1x1x1x2048x128 .bf16) (harg5 : arg5.IsWhole)
  (arg6 : Memref sig .tc .vmem S1x1x4x512x128 .bf16) (harg6 : arg6.IsWhole)
  (arg7 : Memref sig .tc .vmem S1x1x4x512x128 .bf16) (harg7 : arg7.IsWhole)
  (arg8 : Memref sig .tc .vmem S1x1x4x512x128 .bf16) (harg8 : arg8.IsWhole)
  (arg9 : Memref sig .tc .vmem S1x1x16x128x128 .bf16) (harg9 : arg9.IsWhole)
  (arg10 : Memref sig .tc .vmem S1x1x16x128x128 .bf16) (harg10 : arg10.IsWhole)
  (arg11 : Memref sig .tc .vmem S1x1x16x128x128 .bf16) (harg11 : arg11.IsWhole)
  (arg12 : Memref sig .tc .vmem S1x2048x128 .bf16) (harg12 : arg12.IsWhole)
  (arg13 : Memref sig .tc .vmem S3x2048x128 .f32) (harg13 : arg13.IsWhole)
  (arg14 : Memref sig .tc .vmem S3x2048x128 .f32) (harg14 : arg14.IsWhole)
/-- The slope word the body reads from the slopes' block for a group. -/
def slw (i : grid0.Coords) (x : Vec F S12 .f32) (j : Fin 3) : Elt F .f32 :=
  View.ld x (Rect.unit (s := S12) (k0_off1 i (BitVec.ofNat 32 (4 * j.val))) S1.size (k0_off1_inb i j)) (Shape.Idx.first (numel1_S1.symm ▸ Nat.one_pos))

/-- The outputs and the log-sum-exps of all three groups, row by row. -/
def scrO (i : grid0.Coords) (x0 : Vec F S12 .f32) (x1 x2 x3 : Vec F S1x1x1x2048x128 .bf16) (x4 x5 x6 : Vec F S1x1x4x512x128 .bf16)
    (x7 x8 x9 : Vec F S1x1x16x128x128 .bf16) : Vec F S3x2048x128 .f32 :=
  scr (ov1 (slw i x0 0) x1 x2 x3) (ov2 (slw i x0 1) x4 x5 x6) (ov3 (slw i x0 2) x7 x8 x9)
def scrL (i : grid0.Coords) (x0 : Vec F S12 .f32) (x1 x2 : Vec F S1x1x1x2048x128 .bf16) (x4 x5 : Vec F S1x1x4x512x128 .bf16)
    (x7 x8 : Vec F S1x1x16x128x128 .bf16) : Vec F S3x2048x128 .f32 :=
  scr (lv1 (slw i x0 0) x1 x2) (lv2 (slw i x0 1) x4 x5) (lv3 (slw i x0 2) x7 x8)

/-- The pieces the first loop's generated invariant lists, as `below`. -/
theorem pb1 (f3 : BufTy.Contents (Elt F) arg3.view.ty) (f4 : BufTy.Contents (Elt F) arg4.view.ty) (f5 : BufTy.Contents (Elt F) arg5.view.ty) (v : Elt F .f32) (n : ℕ) :
    pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 v f3 f4 f5 n
      = (below (pc1 (ov1 v (arg3.view.read (Elt F) f3) (arg4.view.read (Elt F) f4) (arg5.view.read (Elt F) f5))) n, below (pc1 (lv1 v (arg3.view.read (Elt F) f3) (arg4.view.read (Elt F) f4))) n) := by
  induction n with
  | zero => rfl
  | succ n ih =>
    by_cases h : n < k0_t1_loop.trips
    · have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 v f3 f4 f5 ⟨n, h⟩
      rw [below, below, dif_pos h, dif_pos h]
      refine e.trans ?_
      rw [ih]
      unfold tripL_k0_t1 trip_k0_t1
      rfl
    · rw [pb_k0_t1.eq_2, pb_k0_t1Step, dif_neg h, below, below, dif_neg h, dif_neg h, ih]

/-- The three loops leave the scratch buffers at `scrO` and `scrL`, and the part returns the first rows of the latter. -/
theorem part4 (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f13 : BufTy.Contents (Elt F) arg13.view.ty) (f14 : BufTy.Contents (Elt F) arg14.view.ty) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14))
      ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14) fun v =>
        (iprop(⌜v = k0_pay32 (View.ld (scrL i (arg2.view.read (Elt F) f2) (arg3.view.read (Elt F) f3) (arg4.view.read (Elt F) f4) (arg6.view.read (Elt F) f6) (arg7.view.read (Elt F) f7) (arg9.view.read (Elt F) f9) (arg10.view.read (Elt F) f10)) (Rect.unit (s := S3x2048x128) ![0, 0, 0] S1x256x128.size inb_S3x2048x128_S1x256x128_0_0_0))⌝
          ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} (harg13.unread (scrO i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)))) ∗ (arg14.view.loc (c : Thread nD τ) ↦[arg14.view.set]{fullShare} (harg14.unread (scrL i (arg2.view.read (Elt F) f2) (arg3.view.read (Elt F) f3) (arg4.view.read (Elt F) f4) (arg6.view.read (Elt F) f6) (arg7.view.read (Elt F) f7) (arg9.view.read (Elt F) f9) (arg10.view.read (Elt F) f10))))) : sProp 𝕄) := by
  have e13 : arg13.view.writes (Elt F) f13 (below (pc3 (ov3 (slw i (arg2.view.read (Elt F) f2) 2) (arg9.view.read (Elt F) f9) (arg10.view.read (Elt F) f10) (arg11.view.read (Elt F) f11))) (Scf.trips k0_t3_loop.lb k0_t3_loop.ub k0_t3_loop.st)
      ++ (below (pc2 (ov2 (slw i (arg2.view.read (Elt F) f2) 1) (arg6.view.read (Elt F) f6) (arg7.view.read (Elt F) f7) (arg8.view.read (Elt F) f8))) (Scf.trips k0_t2_loop.lb k0_t2_loop.ub k0_t2_loop.st)
        ++ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (slw i (arg2.view.read (Elt F) f2) 0) f3 f4 f5 (Scf.trips k0_t1_loop.lb k0_t1_loop.ub k0_t1_loop.st)).1))
      = harg13.unread (scrO i (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)) := by
    rw [pb1]
    exact harg13.eq_unread (read_scr arg13 f13 _ _ _ _ _ _ le_rfl le_rfl le_rfl)
  have e14 : arg14.view.writes (Elt F) f14 (below (pc3 (lv3 (slw i (arg2.view.read (Elt F) f2) 2) (arg9.view.read (Elt F) f9) (arg10.view.read (Elt F) f10))) (Scf.trips k0_t3_loop.lb k0_t3_loop.ub k0_t3_loop.st)
      ++ (below (pc2 (lv2 (slw i (arg2.view.read (Elt F) f2) 1) (arg6.view.read (Elt F) f6) (arg7.view.read (Elt F) f7))) (Scf.trips k0_t2_loop.lb k0_t2_loop.ub k0_t2_loop.st)
        ++ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (slw i (arg2.view.read (Elt F) f2) 0) f3 f4 f5 (Scf.trips k0_t1_loop.lb k0_t1_loop.ub k0_t1_loop.st)).2))
      = harg14.unread (scrL i (arg2.view.read (Elt F) f2) (arg3.view.read (Elt F) f3) (arg4.view.read (Elt F) f4) (arg6.view.read (Elt F) f6) (arg7.view.read (Elt F) f7) (arg9.view.read (Elt F) f9) (arg10.view.read (Elt F) f10)) := by
    rw [pb1]
    exact harg14.eq_unread (read_scr arg14 f14 _ _ _ _ _ _ le_rfl le_rfl le_rfl)
  rw [k0_part4_eq_skeleton]
  unfold k0_part4_skel
  iintro ⟨H2, H3, H4, H5, H6, H7, H8, H9, H10, H11, H13, H14⟩
  sl_exec
  sl_step
  isplitr
  · ipureintro
    sl_unfold_words
    refine congrArg k0_pay32 ?_
    exact (congrArg (fun f : BufTy.Contents (Elt F) arg14.view.ty => View.ld (arg14.view.read (Elt F) f) (Rect.unit (s := S3x2048x128) ![0, 0, 0] S1x256x128.size inb_S3x2048x128_S1x256x128_0_0_0)) e14).trans (by rw [harg14.read_unread])
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]
  · rw [← e13]; iexact H13
  · rw [← e14]; iexact H14

end Part4

end Cert.KernelIdeal.Att
-- ==== Proof.KernelIdealBody.lean ====
/-
  The dilated attention body as a whole: what it leaves in its output block, the pipeline's proof data, the body
  obligation, the run and the frame.
-/
module

public import proofs.«01_k».proof.Proof.KernelIdealScratch
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## What the body leaves in the output block -/

/-- The three groups combined on a run of rows, from the groups' log-sum-exps and outputs there. -/
def cmb (l0 l1 l2 o0 o1 o2 : Vec F S1x256x128 .f32) : Vec F S1x256x128 .bf16 := k0_pay33 (k0_pay32 l0) l1 l2 o0 o1 o2

/-- The runs' stores compute the same combination, however the body splits the computation. -/
theorem ch1 (l0 l1 l2 o0 o1 o2 : Vec F S1x256x128 .f32) : k0_pay36 (k0_pay34 l0) (k0_pay35 l1) l2 o0 o1 o2 = cmb l0 l1 l2 o0 o1 o2 := rfl
theorem ch2 (l0 l1 l2 o0 o1 o2 : Vec F S1x256x128 .f32) :
    k0_pay42 (k0_pay38 l1) (k0_pay39 l2) (k0_pay40 l0 l1 l2) (k0_pay41 l0 l1 l2) o0 o1 o2 = cmb l0 l1 l2 o0 o1 o2 := rfl
theorem ch3 (l0 l1 l2 o0 o1 o2 : Vec F S1x256x128 .f32) :
    k0_pay50 (k0_pay47 l0 l1 l2) (k0_pay48 l0 l1 l2) (k0_pay49 l0 l1 l2) o0 o1 o2 = cmb l0 l1 l2 o0 o1 o2 := rfl
theorem ch4 (l0 l1 l2 o0 o1 o2 : Vec F S1x256x128 .f32) :
    k0_pay59 (k0_pay55 l0 l1 l2) (k0_pay56 l0 l1 l2) (k0_pay57 l0 l1 l2) (k0_pay58 l0 l1 l2 o0) o1 o2 = cmb l0 l1 l2 o0 o1 o2 := rfl
theorem ch5 (l0 l1 l2 o0 o1 o2 : Vec F S1x256x128 .f32) :
    k0_pay68 (k0_pay64 l0 l1 l2) (k0_pay65 l0 l1 l2) (k0_pay66 l0 l1 l2) (k0_pay67 l0 l1 l2 o0 o1) o2 = cmb l0 l1 l2 o0 o1 o2 := rfl
theorem ch6 (l0 l1 l2 o0 o1 o2 : Vec F S1x256x128 .f32) :
    k0_pay77 (k0_pay73 l0 l1 l2) (k0_pay74 l0 l1 l2) (k0_pay75 l0 l1 l2) (k0_pay76 l0 l1 l2 o0 o1 o2) = cmb l0 l1 l2 o0 o1 o2 := rfl
theorem ch7 (l0 l1 l2 o0 o1 o2 : Vec F S1x256x128 .f32) : k0_pay1 (k0_pay78 l0 l1 l2 o0 o1 o2) = cmb l0 l1 l2 o0 o1 o2 := rfl

/-- The output block from the two scratch buffers: eight runs of 256 rows, the last stored first. -/
def outS (O L : Vec F S3x2048x128 .f32) : Vec F S1x2048x128 .bf16 :=
  View.canon [⟨(Rect.unit (s := S1x2048x128) ![0, 1792, 0] S1x256x128.size inb_S1x2048x128_S1x256x128_0_1792_0), cmb (View.ld L (Rect.unit (s := S3x2048x128) ![0, 1792, 0] S1x256x128.size inb_S3x2048x128_S1x256x128_0_1792_0)) (View.ld L (Rect.unit (s := S3x2048x128) ![1, 1792, 0] S1x256x128.size inb_S3x2048x128_S1x256x128_1_1792_0)) (View.ld L (Rect.unit (s := S3x2048x128) ![2, 1792, 0] S1x256x128.size inb_S3x2048x128_S1x256x128_2_1792_0)) (View.ld O (Rect.unit (s := S3x2048x128) ![0, 1792, 0] S1x256x128.size inb_S3x2048x128_S1x256x128_0_1792_0)) (View.ld O (Rect.unit (s := S3x2048x128) ![1, 1792, 0] S1x256x128.size inb_S3x2048x128_S1x256x128_1_1792_0)) (View.ld O (Rect.unit (s := S3x2048x128) ![2, 1792, 0] S1x256x128.size inb_S3x2048x128_S1x256x128_2_1792_0))⟩,
    ⟨(Rect.unit (s := S1x2048x128) ![0, 1536, 0] S1x256x128.size inb_S1x2048x128_S1x256x128_0_1536_0), cmb (View.ld L (Rect.unit (s := S3x2048x128) ![0, 1536, 0] S1x256x128.size inb_S3x2048x128_S1x256x128_0_1536_0)) (View.ld L (Rect.unit (s := S3x2048x128) ![1, 1536, 0] S1x256x128.size inb_S3x2048x128_S1x256x128_1_1536_0)) (View.ld L (Rect.unit (s := S3x2048x128) ![2, 1536, 0] S1x256x128.size inb_S3x2048x128_S1x256x128_2_1536_0)) (View.ld O (Rect.unit (s := S3x2048x128) ![0, 1536, 0] S1x256x128.size inb_S3x2048x128_S1x256x128_0_1536_0)) (View.ld O (Rect.unit (s := S3x2048x128) ![1, 1536, 0] S1x256x128.size inb_S3x2048x128_S1x256x128_1_1536_0)) (View.ld O (Rect.unit (s := S3x2048x128) ![2, 1536, 0] S1x256x128.size inb_S3x2048x128_S1x256x128_2_1536_0))⟩,
    ⟨(Rect.unit (s := S1x2048x128) ![0, 1280, 0] S1x256x128.size inb_S1x2048x128_S1x256x128_0_1280_0), cmb (View.ld L (Rect.unit (s := S3x2048x128) ![0, 1280, 0] S1x256x128.size inb_S3x2048x128_S1x256x128_0_1280_0)) (View.ld L (Rect.unit (s := S3x2048x128) ![1, 1280, 0] S1x256x128.size inb_S3x2048x128_S1x256x128_1_1280_0)) (View.ld L (Rect.unit (s := S3x2048x128) ![2, 1280, 0] S1x256x128.size inb_S3x2048x128_S1x256x128_2_1280_0)) (View.ld O (Rect.unit (s := S3x2048x128) ![0, 1280, 0] S1x256x128.size inb_S3x2048x128_S1x256x128_0_1280_0)) (View.ld O (Rect.unit (s := S3x2048x128) ![1, 1280, 0] S1x256x128.size inb_S3x2048x128_S1x256x128_1_1280_0)) (View.ld O (Rect.unit (s := S3x2048x128) ![2, 1280, 0] S1x256x128.size inb_S3x2048x128_S1x256x128_2_1280_0))⟩,
    ⟨(Rect.unit (s := S1x2048x128) ![0, 1024, 0] S1x256x128.size inb_S1x2048x128_S1x256x128_0_1024_0), cmb (View.ld L (Rect.unit (s := S3x2048x128) ![0, 1024, 0] S1x256x128.size inb_S3x2048x128_S1x256x128_0_1024_0)) (View.ld L (Rect.unit (s := S3x2048x128) ![1, 1024, 0] S1x256x128.size inb_S3x2048x128_S1x256x128_1_1024_0)) (View.ld L (Rect.unit (s := S3x2048x128) ![2, 1024, 0] S1x256x128.size inb_S3x2048x128_S1x256x128_2_1024_0)) (View.ld O (Rect.unit (s := S3x2048x128) ![0, 1024, 0] S1x256x128.size inb_S3x2048x128_S1x256x128_0_1024_0)) (View.ld O (Rect.unit (s := S3x2048x128) ![1, 1024, 0] S1x256x128.size inb_S3x2048x128_S1x256x128_1_1024_0)) (View.ld O (Rect.unit (s := S3x2048x128) ![2, 1024, 0] S1x256x128.size inb_S3x2048x128_S1x256x128_2_1024_0))⟩,
    ⟨(Rect.unit (s := S1x2048x128) ![0, 768, 0] S1x256x128.size inb_S1x2048x128_S1x256x128_0_768_0), cmb (View.ld L (Rect.unit (s := S3x2048x128) ![0, 768, 0] S1x256x128.size inb_S3x2048x128_S1x256x128_0_768_0)) (View.ld L (Rect.unit (s := S3x2048x128) ![1, 768, 0] S1x256x128.size inb_S3x2048x128_S1x256x128_1_768_0)) (View.ld L (Rect.unit (s := S3x2048x128) ![2, 768, 0] S1x256x128.size inb_S3x2048x128_S1x256x128_2_768_0)) (View.ld O (Rect.unit (s := S3x2048x128) ![0, 768, 0] S1x256x128.size inb_S3x2048x128_S1x256x128_0_768_0)) (View.ld O (Rect.unit (s := S3x2048x128) ![1, 768, 0] S1x256x128.size inb_S3x2048x128_S1x256x128_1_768_0)) (View.ld O (Rect.unit (s := S3x2048x128) ![2, 768, 0] S1x256x128.size inb_S3x2048x128_S1x256x128_2_768_0))⟩,
    ⟨(Rect.unit (s := S1x2048x128) ![0, 512, 0] S1x256x128.size inb_S1x2048x128_S1x256x128_0_512_0), cmb (View.ld L (Rect.unit (s := S3x2048x128) ![0, 512, 0] S1x256x128.size inb_S3x2048x128_S1x256x128_0_512_0)) (View.ld L (Rect.unit (s := S3x2048x128) ![1, 512, 0] S1x256x128.size inb_S3x2048x128_S1x256x128_1_512_0)) (View.ld L (Rect.unit (s := S3x2048x128) ![2, 512, 0] S1x256x128.size inb_S3x2048x128_S1x256x128_2_512_0)) (View.ld O (Rect.unit (s := S3x2048x128) ![0, 512, 0] S1x256x128.size inb_S3x2048x128_S1x256x128_0_512_0)) (View.ld O (Rect.unit (s := S3x2048x128) ![1, 512, 0] S1x256x128.size inb_S3x2048x128_S1x256x128_1_512_0)) (View.ld O (Rect.unit (s := S3x2048x128) ![2, 512, 0] S1x256x128.size inb_S3x2048x128_S1x256x128_2_512_0))⟩,
    ⟨(Rect.unit (s := S1x2048x128) ![0, 256, 0] S1x256x128.size inb_S1x2048x128_S1x256x128_0_256_0), cmb (View.ld L (Rect.unit (s := S3x2048x128) ![0, 256, 0] S1x256x128.size inb_S3x2048x128_S1x256x128_0_256_0)) (View.ld L (Rect.unit (s := S3x2048x128) ![1, 256, 0] S1x256x128.size inb_S3x2048x128_S1x256x128_1_256_0)) (View.ld L (Rect.unit (s := S3x2048x128) ![2, 256, 0] S1x256x128.size inb_S3x2048x128_S1x256x128_2_256_0)) (View.ld O (Rect.unit (s := S3x2048x128) ![0, 256, 0] S1x256x128.size inb_S3x2048x128_S1x256x128_0_256_0)) (View.ld O (Rect.unit (s := S3x2048x128) ![1, 256, 0] S1x256x128.size inb_S3x2048x128_S1x256x128_1_256_0)) (View.ld O (Rect.unit (s := S3x2048x128) ![2, 256, 0] S1x256x128.size inb_S3x2048x128_S1x256x128_2_256_0))⟩,
    ⟨(Rect.unit (s := S1x2048x128) ![0, 0, 0] S1x256x128.size inb_S1x2048x128_S1x256x128_0_0_0), cmb (View.ld L (Rect.unit (s := S3x2048x128) ![0, 0, 0] S1x256x128.size inb_S3x2048x128_S1x256x128_0_0_0)) (View.ld L (Rect.unit (s := S3x2048x128) ![1, 0, 0] S1x256x128.size inb_S3x2048x128_S1x256x128_1_0_0)) (View.ld L (Rect.unit (s := S3x2048x128) ![2, 0, 0] S1x256x128.size inb_S3x2048x128_S1x256x128_2_0_0)) (View.ld O (Rect.unit (s := S3x2048x128) ![0, 0, 0] S1x256x128.size inb_S3x2048x128_S1x256x128_0_0_0)) (View.ld O (Rect.unit (s := S3x2048x128) ![1, 0, 0] S1x256x128.size inb_S3x2048x128_S1x256x128_1_0_0)) (View.ld O (Rect.unit (s := S3x2048x128) ![2, 0, 0] S1x256x128.size inb_S3x2048x128_S1x256x128_2_0_0))⟩]

theorem cover_out (p7 : Vec F S1x256x128 .bf16) (p6 : Vec F S1x256x128 .bf16) (p5 : Vec F S1x256x128 .bf16) (p4 : Vec F S1x256x128 .bf16) (p3 : Vec F S1x256x128 .bf16) (p2 : Vec F S1x256x128 .bf16) (p1 : Vec F S1x256x128 .bf16) (p0 : Vec F S1x256x128 .bf16) (y : S1x2048x128.Idx) :
    ∃ pc ∈ ([⟨(Rect.unit (s := S1x2048x128) ![0, 1792, 0] S1x256x128.size inb_S1x2048x128_S1x256x128_0_1792_0), p7⟩, ⟨(Rect.unit (s := S1x2048x128) ![0, 1536, 0] S1x256x128.size inb_S1x2048x128_S1x256x128_0_1536_0), p6⟩, ⟨(Rect.unit (s := S1x2048x128) ![0, 1280, 0] S1x256x128.size inb_S1x2048x128_S1x256x128_0_1280_0), p5⟩, ⟨(Rect.unit (s := S1x2048x128) ![0, 1024, 0] S1x256x128.size inb_S1x2048x128_S1x256x128_0_1024_0), p4⟩, ⟨(Rect.unit (s := S1x2048x128) ![0, 768, 0] S1x256x128.size inb_S1x2048x128_S1x256x128_0_768_0), p3⟩, ⟨(Rect.unit (s := S1x2048x128) ![0, 512, 0] S1x256x128.size inb_S1x2048x128_S1x256x128_0_512_0), p2⟩, ⟨(Rect.unit (s := S1x2048x128) ![0, 256, 0] S1x256x128.size inb_S1x2048x128_S1x256x128_0_256_0), p1⟩, ⟨(Rect.unit (s := S1x2048x128) ![0, 0, 0] S1x256x128.size inb_S1x2048x128_S1x256x128_0_0_0), p0⟩] : List (View.Piece (Elt F) S1x2048x128 .bf16)), y ∈ pc.1.set :=
  View.cover_of_tiled [⟨(Rect.unit (s := S1x2048x128) ![0, 1792, 0] S1x256x128.size inb_S1x2048x128_S1x256x128_0_1792_0), p7⟩, ⟨(Rect.unit (s := S1x2048x128) ![0, 1536, 0] S1x256x128.size inb_S1x2048x128_S1x256x128_0_1536_0), p6⟩, ⟨(Rect.unit (s := S1x2048x128) ![0, 1280, 0] S1x256x128.size inb_S1x2048x128_S1x256x128_0_1280_0), p5⟩, ⟨(Rect.unit (s := S1x2048x128) ![0, 1024, 0] S1x256x128.size inb_S1x2048x128_S1x256x128_0_1024_0), p4⟩, ⟨(Rect.unit (s := S1x2048x128) ![0, 768, 0] S1x256x128.size inb_S1x2048x128_S1x256x128_0_768_0), p3⟩, ⟨(Rect.unit (s := S1x2048x128) ![0, 512, 0] S1x256x128.size inb_S1x2048x128_S1x256x128_0_512_0), p2⟩, ⟨(Rect.unit (s := S1x2048x128) ![0, 256, 0] S1x256x128.size inb_S1x2048x128_S1x256x128_0_256_0), p1⟩, ⟨(Rect.unit (s := S1x2048x128) ![0, 0, 0] S1x256x128.size inb_S1x2048x128_S1x256x128_0_0_0), p0⟩] S1x256x128.size (by rfl) y

/-- The output block from the input blocks. -/
def out0_10 (i : grid0.Coords) (x0 : Vec F S12 .f32) (x1 : Vec F S1x1x1x2048x128 .bf16) (x2 : Vec F S1x1x1x2048x128 .bf16) (x3 : Vec F S1x1x1x2048x128 .bf16) (x4 : Vec F S1x1x4x512x128 .bf16) (x5 : Vec F S1x1x4x512x128 .bf16) (x6 : Vec F S1x1x4x512x128 .bf16) (x7 : Vec F S1x1x16x128x128 .bf16) (x8 : Vec F S1x1x16x128x128 .bf16) (x9 : Vec F S1x1x16x128x128 .bf16) : Vec F S1x2048x128 .bf16 :=
  outS (scrO i x0 x1 x2 x3 x4 x5 x6 x7 x8 x9) (scrL i x0 x1 x2 x4 x5 x7 x8)

section Body

variable (c : Dev nD) (i : grid0.Coords)
  (arg2 : Memref sig .tc .smem S12 .f32) (harg2 : arg2.IsWhole)
  (arg3 : Memref sig .tc .vmem S1x1x1x2048x128 .bf16) (harg3 : arg3.IsWhole)
  (arg4 : Memref sig .tc .vmem S1x1x1x2048x128 .bf16) (harg4 : arg4.IsWhole)
  (arg5 : Memref sig .tc .vmem S1x1x1x2048x128 .bf16) (harg5 : arg5.IsWhole)
  (arg6 : Memref sig .tc .vmem S1x1x4x512x128 .bf16) (harg6 : arg6.IsWhole)
  (arg7 : Memref sig .tc .vmem S1x1x4x512x128 .bf16) (harg7 : arg7.IsWhole)
  (arg8 : Memref sig .tc .vmem S1x1x4x512x128 .bf16) (harg8 : arg8.IsWhole)
  (arg9 : Memref sig .tc .vmem S1x1x16x128x128 .bf16) (harg9 : arg9.IsWhole)
  (arg10 : Memref sig .tc .vmem S1x1x16x128x128 .bf16) (harg10 : arg10.IsWhole)
  (arg11 : Memref sig .tc .vmem S1x1x16x128x128 .bf16) (harg11 : arg11.IsWhole)
  (arg12 : Memref sig .tc .vmem S1x2048x128 .bf16) (harg12 : arg12.IsWhole)
  (arg13 : Memref sig .tc .vmem S3x2048x128 .f32) (harg13 : arg13.IsWhole)
  (arg14 : Memref sig .tc .vmem S3x2048x128 .f32) (harg14 : arg14.IsWhole)

set_option maxHeartbeats 400000 in
/-- The body on whole memrefs: the inputs as they were, the output at `out0_10`, the scratch buffers at something. -/
theorem sound_kernel (E : Set ℕ) (x0 : Vec F S12 .f32) (x1 : Vec F S1x1x1x2048x128 .bf16) (x2 : Vec F S1x1x1x2048x128 .bf16) (x3 : Vec F S1x1x1x2048x128 .bf16) (x4 : Vec F S1x1x4x512x128 .bf16) (x5 : Vec F S1x1x4x512x128 .bf16) (x6 : Vec F S1x1x4x512x128 .bf16) (x7 : Vec F S1x1x16x128x128 .bf16) (x8 : Vec F S1x1x16x128x128 .bf16) (x9 : Vec F S1x1x16x128x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out0_10 i x0 x1 x2 x3 x4 x5 x6 x7 x8 x9) ∗ (∃ d, owns (c : Thread nD τ) arg13 fullShare d) ∗ (∃ d, owns (c : Thread nD τ) arg14 fullShare d)) -∗ K ⟨⟩))
      ⊢ wp frame (wpE (defs₀ (F := F)) Variants.none c none) E (cc0_dilated_attention i arg2 harg2 arg3 harg3 arg4 harg4 arg5 harg5 arg6 harg6 arg7 harg7 arg8 harg8 arg9 harg9 arg10 harg10 arg11 harg11 arg12 harg12 arg13 harg13 arg14 harg14) K := by
  simp only [cc0_dilated_attention_eq_skeleton]; unfold cc0_dilated_attention_skel
  simp only [k0_part5_eq_skeleton, k0_part6_eq_skeleton, k0_part7_eq_skeleton, k0_part8_eq_skeleton, k0_part9_eq_skeleton, k0_part10_eq_skeleton, k0_part11_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf2 hf3 hf4 hf5 hf6 hf7 hf8 hf9 hf10 hf11
  have hcut := part4 (F := F) c i arg2 harg2 arg3 harg3 arg4 harg4 arg5 harg5 arg6 harg6 arg7 harg7 arg8 harg8 arg9 harg9 arg10 harg10 arg11 harg11 arg12 harg12 arg13 harg13 arg14 harg14 E f2 f3 f4 f5 f6 f7 f8 f9 f10 f11 f13 f14
  sl_exec
  sl_step
  iapply Hk
  isplitl [Hk0_part4_1]
  · iexists f2; isplitr; · ipureintro; rfl
    iexact Hk0_part4_1
  isplitl [Hk0_part4_2]
  · iexists f3; isplitr; · ipureintro; rfl
    iexact Hk0_part4_2
  isplitl [Hk0_part4_3]
  · iexists f4; isplitr; · ipureintro; rfl
    iexact Hk0_part4_3
  isplitl [Hk0_part4_4]
  · iexists f5; isplitr; · ipureintro; rfl
    iexact Hk0_part4_4
  isplitl [Hk0_part4_5]
  · iexists f6; isplitr; · ipureintro; rfl
    iexact Hk0_part4_5
  isplitl [Hk0_part4_6]
  · iexists f7; isplitr; · ipureintro; rfl
    iexact Hk0_part4_6
  isplitl [Hk0_part4_7]
  · iexists f8; isplitr; · ipureintro; rfl
    iexact Hk0_part4_7
  isplitl [Hk0_part4_8]
  · iexists f9; isplitr; · ipureintro; rfl
    iexact Hk0_part4_8
  isplitl [Hk0_part4_9]
  · iexists f10; isplitr; · ipureintro; rfl
    iexact Hk0_part4_9
  isplitl [Hk0_part4_10]
  · iexists f11; isplitr; · ipureintro; rfl
    iexact Hk0_part4_10
  isplitl [H12]
  · iexists _; isplitr
    swap; · iexact H12
    ipureintro
    refine (View.read_writes_eq_canon _ _ _ (cover_out _ _ _ _ _ _ _ _)).trans ?_
    refine Eq.trans ?_ (congrArg₂ outS (harg13.read_unread _) (harg14.read_unread _))
    have hr := ‹k0_part4_r = _›
    have hr' := hr.trans (congrArg (fun z : Vec F S3x2048x128 .f32 => k0_pay32 (View.ld z (Rect.unit (s := S3x2048x128) ![0, 0, 0] S1x256x128.size inb_S3x2048x128_S1x256x128_0_0_0))) (harg14.read_unread _).symm)
    rw [hr']
    sl_unfold_words
    unfold outS
    rw [ch7, ch6, ch5, ch4, ch3, ch2, ch1]
    rfl
  isplitl [Hk0_part4_11]
  · iexists _; iexists _; isplitr
    swap; · iexact Hk0_part4_11
    ipureintro; rfl
  iexists _; iexists _; isplitr
  swap; · iexact Hk0_part4_12
  ipureintro; rfl

end Body

/-! ## The pipeline's proof data -/

variable (m : (ℓ : Loc nD τ sig) → Buf (Elt F) ℓ) (ρ : Dev nD → PrngReg)

/-- The arrays as the region finds them; after the body each input's buffer at its block and the output's at `out0_10`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (grid0.coords t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

/-- A whole buffer at some contents is its memref owned at something. -/
theorem owns_of_whole (c : Dev nD) (b : Ref sig .tc) :
    iprop(∃ f : Buf (Elt F) ((c : Thread nD τ).loc b), ((c : Thread nD τ).loc b) ↦{fullShare} f)
      ⊢ (iprop(∃ d, owns (c : Thread nD τ) (Memref.whole b) fullShare d) : sProp 𝕄) := by
  iintro ⟨%f, H⟩
  unfold owns
  iexists f; iexists f
  isplitr; · ipureintro; rfl
  rw [show (Memref.whole b : Memref sig .tc _ _ _).view.set = Finset.univ from View.set_whole b]
  iexact H

theorem whole_of_owns (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  unfold owns
  iintro ⟨%d, %f, -, H⟩
  iexists f
  rw [show (Memref.whole b : Memref sig .tc _ _ _).view.set = Finset.univ from View.set_whole b]
  iexact H

theorem owns_whole_ex (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) :=
  Entails.antisymm (owns_of_whole c b) (whole_of_owns c b)

/-- The class's invariant with the two scratch buffers as whole memrefs. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]
  simp only [owns_whole_ex]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq,
    after0_0, after0_1, after0_2, after0_3, after0_4, after0_5, after0_6, after0_7, after0_8, after0_9, after0_10]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c (grid0.coords t) _ _ _ _ _ _ _ _ _ _ _ _ _ _ _ _ _ _ _ _ _ _ _ _ _ _  Set.univ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends with every array at what the proof data says, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Att
-- ==== Proof.Band.lean ====
/-
  Softmax attention of one row over the extended reals, and why it may be taken over a window alone: the scores outside
  the window are `⊥`, whose exponential is `0`.
-/
module

public import Idealize.ShloMosaic.Lib.Pointwise
public import Idealize.ShloMosaic.PureOps.Ideal.Laws

@[expose] public section

set_option maxRecDepth 16384

noncomputable section

namespace Cert.Band

open Idealize.ShloMosaic

variable {n w : ℕ}

/-- The largest of a row of scores, `⊥` when there is none. -/
def mx (S : Fin n → EReal) : EReal := Finset.univ.fold max ⊥ S
/-- The weight of each entry of a row, not yet divided by their sum. -/
def wt (S : Fin n → EReal) (j : Fin n) : EReal := Ideal.exp (S j - mx S)
/-- The softmax average of the values `V` under the scores `S`. -/
def gO (S V : Fin n → EReal) : EReal := Ideal.div (∑ j, wt S j * V j) (∑ j, wt S j)
/-- The logarithm of the sum of the scores' exponentials. -/
def gL (S : Fin n → EReal) : EReal := mx S + Ideal.log (∑ j, wt S j)

theorem mx_le {S : Fin n → EReal} {c : EReal} : mx S ≤ c ↔ ∀ j, S j ≤ c := by
  unfold mx
  rw [Finset.fold_max_le]
  simp

theorem le_mx (S : Fin n → EReal) (j : Fin n) : S j ≤ mx S := mx_le.1 le_rfl j

section Window

variable (e : Fin w → Fin n) (he : Function.Injective e) (S V : Fin n → EReal) (h : ∀ j, j ∉ Set.range e → S j = ⊥)

include h in
theorem mx_win : mx S = mx (S ∘ e) := by
  apply le_antisymm
  · rw [mx_le]
    intro j
    by_cases hj : j ∈ Set.range e
    · obtain ⟨c, rfl⟩ := hj
      exact le_mx (S ∘ e) c
    · rw [h j hj]
      exact bot_le
  · rw [mx_le]
    intro c
    exact le_mx S (e c)

include h in
theorem wt_win (c : Fin w) : wt S (e c) = wt (S ∘ e) c := by
  unfold wt
  rw [mx_win e S h]
  rfl

include h in
theorem wt_out (j : Fin n) (hj : j ∉ Set.range e) : wt S j = 0 := by
  unfold wt
  rw [h j hj, EReal.bot_sub]
  rfl

include he h in
/-- The average over a whole row is the average over the window. -/
theorem gO_win : gO S V = gO (S ∘ e) (V ∘ e) := by
  unfold gO
  congr 1
  · refine (Fintype.sum_of_injective e he _ _ (fun j hj => ?_) (fun c => ?_)).symm
    · rw [wt_out e S h j hj, zero_mul]
    · rw [wt_win e S h]; rfl
  · refine (Fintype.sum_of_injective e he _ _ (fun j hj => ?_) (fun c => ?_)).symm
    · rw [wt_out e S h j hj]
    · rw [wt_win e S h]

include he h in
theorem gL_win : gL S = gL (S ∘ e) := by
  unfold gL
  congr 1
  · exact mx_win e S h
  · congr 1
    refine (Fintype.sum_of_injective e he _ _ (fun j hj => ?_) (fun c => ?_)).symm
    · rw [wt_out e S h j hj]
    · rw [wt_win e S h]

end Window

/-! ## The scores -/

/-- The score of a key at distance `z` (in steps of the class) from the query: `⊥` when further than 64 steps. -/
def score (sl : EReal) (dil : ℕ) (q k : Fin 128 → EReal) (z : ℤ) : EReal :=
  if |z| ≤ 64 then (∑ x, q x * k x) * Ideal.ofBits .f32 0x3DB504F3#32 + (-sl) * (((|z| * dil : ℤ) : ℝ) : EReal) else ⊥

/-- The scores of query row `i` against all keys of its class. -/
def row {L : ℕ} (sl : EReal) (dil : ℕ) (X Y : Fin L → Fin 128 → EReal) (i : Fin L) : Fin L → EReal :=
  fun j => score sl dil (X i) (Y j) ((j.val : ℤ) - i.val)

theorem score_out {sl : EReal} {dil : ℕ} {q k : Fin 128 → EReal} {z : ℤ} (hz : 64 < |z|) : score sl dil q k z = ⊥ := by
  unfold score
  rw [if_neg (by omega)]

theorem ofBits_bot : Ideal.ofBits .f32 0xFF800000#32 = ⊥ := by simp [Ideal.ofBits, Ideal.ieee]

/-! ## The attention of all rows -/

/-- The scores of one row of one group: the slope of the group and head, the queries and keys of the row's class. -/
def rowOf {R L : ℕ} (sl : Fin 12 → EReal) (g : Fin 3) (dil : ℕ) (A : Fin 8 → Fin 12 → Fin R → Fin L → Fin 128 → EReal) (b : Fin 8) (h : Fin 4)
    (r : Fin R) (i : Fin L) : Fin L → EReal :=
  row (sl ⟨4 * g.val + h.val, by omega⟩) dil (A b ⟨h.val, by omega⟩ r) (A b ⟨4 + h.val, by omega⟩ r) i
/-- Lane `d` of the values of a class. -/
def valOf {R L : ℕ} (A : Fin 8 → Fin 12 → Fin R → Fin L → Fin 128 → EReal) (b : Fin 8) (h : Fin 4) (r : Fin R) (d : Fin 128) : Fin L → EReal :=
  fun j => A b ⟨8 + h.val, by omega⟩ r j d

/-- Position `s` of a sequence is row `s / dil` of class `s % dil`. -/
def cls4 (s : Fin 2048) : Fin 4 := ⟨s.val % 4, by omega⟩
def pos4 (s : Fin 2048) : Fin 512 := ⟨s.val / 4, by omega⟩
def cls16 (s : Fin 2048) : Fin 16 := ⟨s.val % 16, by omega⟩
def pos16 (s : Fin 2048) : Fin 128 := ⟨s.val / 16, by omega⟩

/-- Lane `d` of head `h` at position `s`: the three groups' averages, averaged under their logarithms of sums. -/
def att (sl : Fin 12 → EReal) (A : Fin 8 → Fin 12 → Fin 1 → Fin 2048 → Fin 128 → EReal) (B : Fin 8 → Fin 12 → Fin 4 → Fin 512 → Fin 128 → EReal)
    (C : Fin 8 → Fin 12 → Fin 16 → Fin 128 → Fin 128 → EReal) (b : Fin 8) (s : Fin 2048) (h : Fin 4) (d : Fin 128) : EReal :=
  gO ![gL (rowOf sl 0 1 A b h 0 s), gL (rowOf sl 1 4 B b h (cls4 s) (pos4 s)), gL (rowOf sl 2 16 C b h (cls16 s) (pos16 s))]
    ![gO (rowOf sl 0 1 A b h 0 s) (valOf A b h 0 d), gO (rowOf sl 1 4 B b h (cls4 s) (pos4 s)) (valOf B b h (cls4 s) d),
      gO (rowOf sl 2 16 C b h (cls16 s) (pos16 s)) (valOf C b h (cls16 s) d)]

theorem mx3 (x y z : EReal) : mx ![x, y, z] = max (max x y) z := by
  apply le_antisymm
  · rw [mx_le]
    intro j
    fin_cases j <;> simp
  · exact max_le (max_le (le_mx ![x, y, z] 0) (le_mx ![x, y, z] 1)) (le_mx ![x, y, z] 2)

/-! ## Words -/

theorem absi_ofInt (z : ℤ) (hz : |z| < 2 ^ 30) : IntOp.absi (BitVec.ofInt 32 z) = BitVec.ofInt 32 |z| := by
  rw [abs_lt] at hz
  have ht : (BitVec.ofInt 32 z).toInt = z := by
    rw [BitVec.toInt_ofInt]
    exact Int.bmod_eq_of_le (by omega) (by omega)
  unfold IntOp.absi
  rw [BitVec.msb_eq_toInt, ht]
  by_cases h : z < 0
  · rw [decide_eq_true h, if_pos rfl, abs_of_neg h, BitVec.ofInt_neg]
  · rw [decide_eq_false h, if_neg (by decide), abs_of_nonneg (by omega)]

theorem toInt_ofInt_small (z : ℤ) (hz : |z| < 2 ^ 30) : (BitVec.ofInt 32 z).toInt = z := by
  rw [abs_lt] at hz
  rw [BitVec.toInt_ofInt]
  exact Int.bmod_eq_of_le (by omega) (by omega)

theorem sle_ofInt (z : ℤ) (hz : |z| < 2 ^ 30) : IntOp.cmpi .sle (BitVec.ofInt 32 z) 64#32 = if z ≤ 64 then 1#1 else 0#1 := by
  have h : (BitVec.ofInt 32 z).sle 64#32 = decide (z ≤ 64) := by
    rw [BitVec.sle_eq_decide, toInt_ofInt_small z hz]
    rfl
  show BitVec.ofBool ((BitVec.ofInt 32 z).sle 64#32) = _
  rw [h]
  by_cases h : z ≤ 64 <;> simp [h]

theorem sub_ofNat (a c : ℕ) : IntOp.subi (BitVec.ofNat 32 c) (BitVec.ofNat 32 a) = BitVec.ofInt 32 ((c : ℤ) - a) := by
  show BitVec.ofNat 32 c - BitVec.ofNat 32 a = _
  rw [sub_eq_add_neg, BitVec.ofInt_add, BitVec.ofInt_neg, BitVec.ofInt_natCast, BitVec.ofInt_natCast, BitVec.sub_eq_add_neg]

/-- A kernel's score, its bias chosen by the distance word, is the score. -/
theorem score_ker (sl nd : EReal) (dil : ℕ) (hnd : nd = -((dil : ℝ) : EReal)) (q k : Fin 128 → EReal) (z : ℤ) (hz : |z| < 2 ^ 30)
    (b : BitVec 32) (hb : b = BitVec.ofInt 32 z) (ninf : EReal) (hn : ninf = ⊥) :
    (∑ x, q x * k x) * Ideal.ofBits .f32 0x3DB504F3#32
      + Scalar.select (IntOp.cmpi .sle (IntOp.absi b) 64#32) (FloatOps.sitofp (F := Ideal) .f32 (IntOp.absi b) * (sl * nd)) ninf
      = score sl dil q k z := by
  have hz' : |(|z|)| < 2 ^ 30 := by rwa [abs_abs]
  subst hb hn hnd
  unfold score
  rw [absi_ofInt z hz, sle_ofInt _ hz']
  by_cases h : |z| ≤ 64
  · rw [if_pos h, if_pos h]
    congr 1
    show (((BitVec.ofInt 32 |z|).toInt : ℝ) : EReal) * (sl * -((dil : ℝ) : EReal)) = _
    rw [toInt_ofInt_small _ hz', mul_neg, mul_neg, neg_mul, mul_left_comm, Int.cast_mul, EReal.coe_mul]
    norm_cast
  · rw [if_neg h, if_neg h]
    show (∑ x, q x * k x) * Ideal.ofBits .f32 0x3DB504F3#32 + ⊥ = ⊥
    exact EReal.add_bot _

/-- A reference's score, masked by the distance word, is the score. -/
theorem score_ref (sl : EReal) (dil : ℕ) (hd : dil ≤ 16) (q k : Fin 128 → EReal) (z : ℤ) (hz : |z| < 2 ^ 16)
    (b d : BitVec 32) (hb : b = BitVec.ofInt 32 z) (hdw : d = BitVec.ofNat 32 dil) :
    Scalar.select (IntOp.cmpi .sle (IntOp.absi b) 64#32)
      ((∑ x, q x * k x) * Ideal.ofBits .f32 0x3DB504F3#32 + (-sl) * (FloatOps.sitofp (F := Ideal) .f32 (IntOp.muli (IntOp.absi b) d))) (⊥ : EReal)
      = score sl dil q k z := by
  have hz0 : |z| < 2 ^ 30 := by omega
  have hz' : |(|z|)| < 2 ^ 30 := by rwa [abs_abs]
  have hm : |(|z| * (dil : ℤ))| < 2 ^ 30 := by
    have h0 := abs_nonneg z
    rw [abs_mul, abs_abs, Nat.abs_cast]
    nlinarith [Int.natCast_nonneg dil, (by exact_mod_cast hd : (dil : ℤ) ≤ 16)]
  have hw : IntOp.muli (BitVec.ofInt 32 |z|) (BitVec.ofNat 32 dil) = BitVec.ofInt 32 (|z| * dil) := by
    show BitVec.ofInt 32 |z| * BitVec.ofNat 32 dil = _
    rw [BitVec.ofInt_mul, BitVec.ofInt_natCast]
  subst hb hdw
  unfold score
  rw [absi_ofInt z hz0, sle_ofInt _ hz', hw]
  by_cases h : |z| ≤ 64
  · rw [if_pos h, if_pos h]
    show _ + (-sl) * (((BitVec.ofInt 32 (|z| * dil)).toInt : ℝ) : EReal) = _
    rw [toInt_ofInt_small _ hm]
  · rw [if_neg h, if_neg h]
    rfl

end Cert.Band
-- ==== Proof.KerTile.lean ====
/-
  What one trip of each group's loop stores, as attention rows: the softmax average of a query row over all keys of its
  class, and the logarithm of the row's sum.
-/
module

public import proofs.«01_k».proof.Proof.KernelIdealBody
public import proofs.«01_k».proof.Proof.Band

@[expose] public section

set_option maxRecDepth 16384
set_option maxHeartbeats 400000

noncomputable section

namespace Cert.KernelIdeal.Att

open Cert.KernelIdeal Cert.KernelIdeal.Gen
open Idealize.ShloMosaic Idealize.ShloMosaic.TcCoe
open Cert.Band

/-- A value read through a rectangle is the value at the place the rectangle gives. -/
theorem ld_at {s : Shape} {e : EltTy} (X : Vec Ideal s e) (r : Rect s) (y : r.shape.Idx) (z : s.Idx)
    (h : ∀ a, (z a).val = r.off a + r.stride a * (y a).val) : View.ld X r y = X z :=
  congrArg X (r.emb_eq_of_coords y z h)

/-- The slopes' factors: minus the dilation. -/
theorem neg1 : Ideal.ofBits .f32 0xBF800000#32 = -(((1 : ℕ) : ℝ) : EReal) := by
  simp [Ideal.ofBits, Ideal.ieee]
  rw [← EReal.coe_mul]
  norm_num
theorem neg4 : Ideal.ofBits .f32 0xC0800000#32 = -(((4 : ℕ) : ℝ) : EReal) := by
  simp [Ideal.ofBits, Ideal.ieee]
  rw [← EReal.coe_mul]
  norm_num
theorem neg16 : Ideal.ofBits .f32 0xC1800000#32 = -(((16 : ℕ) : ℝ) : EReal) := by
  simp [Ideal.ofBits, Ideal.ieee]
  rw [← EReal.coe_mul]
  norm_num

/-- The mask's value. -/
theorem mask_bot : (Named.named κ "mask" 0xF149F2CA#32 : Ideal .f32) = ⊥ := IdealRules.named_const.ideal_named_scalar _ _ _ _ rfl

/-- The first key of a trip's window. -/
def ks1 (k : ℕ) : ℕ := min 1792 (128 * k - 64)
def ks2 (k : ℕ) : ℕ := min 256 (k % 4 * 128 - 64)

theorem off2_at : ∀ k : Fin k0_t1_loop.trips, k0_off2 k = ![0, 0, 0, 128 * k.val, 0] := by decide +kernel
theorem off3_at : ∀ k : Fin k0_t1_loop.trips, k0_off3 k = ![0, 0, 0, ks1 k.val, 0] := by decide +kernel
theorem off5_at : ∀ k : Fin k0_t2_loop.trips, k0_off5 k = ![0, 0, k.val / 4, k.val % 4 * 128, 0] := by decide +kernel
theorem off6_at : ∀ k : Fin k0_t2_loop.trips, k0_off6 k = ![0, 0, k.val / 4, ks2 k.val, 0] := by decide +kernel
theorem off8_at : ∀ k : Fin k0_t3_loop.trips, k0_off8 k = ![0, 0, k.val, 0, 0] := by decide +kernel
theorem off9_at : ∀ k : Fin k0_t3_loop.trips, k0_off9 k = ![0, 0, k.val, 0, 0] := by decide +kernel

/-- The distance between a trip's first key and first query, as the body's words give it. -/
theorem word1 : ∀ k : Fin k0_t1_loop.trips,
    Scalar.subi (Scalar.minsi 1792#32 (Scalar.maxsi 0#32 (Scalar.subi (Scalar.muli (Scalar.andi (Scf.iv 0#32 1#32 k.val) 15#32) 128#32) 64#32)))
      (Scalar.muli (Scalar.andi (Scf.iv 0#32 1#32 k.val) 15#32) 128#32) = BitVec.ofInt 32 ((ks1 k.val : ℤ) - (128 * k.val : ℕ)) := by decide +kernel
theorem word2 : ∀ k : Fin k0_t2_loop.trips,
    Scalar.subi (Scalar.minsi 256#32 (Scalar.maxsi 0#32 (Scalar.subi (Scalar.muli (Scalar.andi (Scf.iv 0#32 1#32 k.val) 3#32) 128#32) 64#32)))
      (Scalar.muli (Scalar.andi (Scf.iv 0#32 1#32 k.val) 3#32) 128#32) = BitVec.ofInt 32 ((ks2 k.val : ℤ) - (k.val % 4 * 128 : ℕ)) := by decide +kernel
theorem word3 : ∀ k : Fin k0_t3_loop.trips,
    Scalar.subi (Scalar.minsi 0#32 (Scalar.maxsi 0#32 (Scalar.subi (Scalar.muli (Scalar.andi (Scf.iv 0#32 1#32 k.val) 0#32) 128#32) 64#32)))
      (Scalar.muli (Scalar.andi (Scf.iv 0#32 1#32 k.val) 0#32) 128#32) = BitVec.ofInt 32 0 := by decide +kernel

/-- The distance word of key `c` and query `a` of a trip. -/
theorem dist_word (a c : ℕ) (w : BitVec 32) (d z : ℤ) (hw : w = BitVec.ofInt 32 d) (hz : z = (c : ℤ) - a + d) :
    IntOp.addi (IntOp.subi (BitVec.ofNat 32 c) (BitVec.ofNat 32 a)) w = BitVec.ofInt 32 z := by
  subst hw hz
  rw [sub_ofNat, BitVec.ofInt_add]
  rfl

/-! ## Group 0 -/

/-- The key of window place `c`. -/
def key1 (k : Fin k0_t1_loop.trips) (c : Fin 256) : Fin 2048 := ⟨ks1 k.val + c.val, by have := c.isLt; unfold ks1; omega⟩

/-- Query row `i` against all keys. -/
abbrev row1 (v : Elt Ideal .f32) (X Y : Vec Ideal S1x1x1x2048x128 .bf16) (i : Fin 2048) : Fin 2048 → EReal :=
  row v 1 (fun i x => X (ix5 0 0 0 i x)) (fun j x => Y (ix5 0 0 0 j x)) i

section Group0

variable (v : Elt Ideal .f32) (X Y Z : Vec Ideal S1x1x1x2048x128 .bf16) (k : Fin k0_t1_loop.trips) (a : Fin 128) (i : Fin 2048)
  (hi : i.val = 128 * k.val + a.val)

theorem key1_inj : Function.Injective (key1 k) := fun c d h => Fin.ext (by have := congrArg Fin.val h; simp only [key1] at this; omega)

include hi in
theorem key1_out (j : Fin 2048) (hj : j ∉ Set.range (key1 k)) : row1 v X Y i j = ⊥ := by
  have ht : k.val < 16 := lt_of_lt_of_eq k.isLt trips1
  have hj' : ¬(ks1 k.val ≤ j.val ∧ j.val < ks1 k.val + 256) := fun h =>
    hj ⟨⟨j.val - ks1 k.val, by omega⟩, Fin.ext (by simp only [key1]; omega)⟩
  refine score_out ?_
  unfold ks1 at hj'
  rw [lt_abs]
  omega

theorem qt1_at (i : Fin 2048) (hi : i.val = 128 * k.val + a.val) (x : Fin 128) : qt1 X k (ix5 0 0 0 a x) = X (ix5 0 0 0 i x) := by
  refine ld_at X _ _ _ fun b => ?_
  simp only [Rect.unit, off2_at]
  fin_cases b <;> simp [hi]
theorem kt1_at (c : Fin 256) (x : Fin 128) : kt1 X k (ix5 0 0 0 c x) = X (ix5 0 0 0 (key1 k c) x) := by
  refine ld_at X _ _ _ fun b => ?_
  simp only [Rect.unit, off3_at]
  fin_cases b <;> simp [key1]

include hi in
theorem pay3_at (c : Fin 256) : k0_pay3 (F := Ideal) (k0_pay14 v) k0_pay15 0#32 1#32 k (qt1 X k) (kt1 Y k) (ix2 a c) = row1 v X Y i (key1 k c) := by
  have ht : k.val < 16 := lt_of_lt_of_eq k.isLt trips1
  have hz : |((key1 k c).val : ℤ) - i.val| < 2 ^ 30 := by rw [abs_lt]; omega
  pointwise [k0_pay3, k0_pay14, k0_pay15]
  refine (score_ker v _ 1 neg1 _ _ _ hz _ (dist_word a.val c.val _ _ _ (word1 k) ?_) _ mask_bot).trans ?_
  · simp only [key1]; push_cast; omega
  · exact congrArg₂ (fun q p => score v 1 q p _) (funext fun x => qt1_at X k a i hi x) (funext fun x => kt1_at Y k c x)

theorem pay5_at (c : Fin 256) (Q : Vec Ideal S1x1x1x128x128 .bf16) (K : Vec Ideal S1x1x1x256x128 .bf16) (V15 : FVec Ideal S1x256 .f32) (V18 : IVec S128x256 32) :
    k0_pay5 (F := Ideal) V15 V18 0#32 1#32 k Q K (ix2 a c)
      = k0_pay3 (F := Ideal) V15 V18 0#32 1#32 k Q K (ix2 a c) - mx (fun c => k0_pay3 (F := Ideal) V15 V18 0#32 1#32 k Q K (ix2 a c)) := by
  unfold mx
  rw [← ofBits_bot]
  pointwise [k0_pay5, k0_pay4]

include hi in
/-- The tile's output row. -/
theorem ov1_at (d : Fin 128) : ov1 v X Y Z k (ix3 0 a d) = gO (row1 v X Y i) (fun j => Z (ix5 0 0 0 j d)) := by
  rw [gO_win (key1 k) (key1_inj k) _ _ (key1_out v X Y k a i hi)]
  unfold ov1
  pointwise [k0_pay18, k0_pay16, k0_pay17, k0_pay2]
  simp only [pay5_at, pay3_at v X Y k a i hi]
  exact congrArg₂ Ideal.div (Finset.sum_congr rfl fun c _ => congrArg (wt (row1 v X Y i ∘ key1 k) c * ·) (kt1_at Z k c d)) rfl

include hi in
/-- The tile's logarithm row. -/
theorem lv1_at (d : Fin 128) : lv1 v X Y k (ix3 0 a d) = gL (row1 v X Y i) := by
  rw [gL_win (key1 k) (key1_inj k) _ (key1_out v X Y k a i hi)]
  unfold lv1
  pointwise [k0_pay19, k0_pay16, k0_pay17, k0_pay4]
  simp only [pay5_at, pay3_at v X Y k a i hi, ofBits_bot]
  rfl

end Group0

/-! ## Group 1 -/

/-- The key of window place `c`. -/
def key2 (k : Fin k0_t2_loop.trips) (c : Fin 256) : Fin 512 := ⟨ks2 k.val + c.val, by have := c.isLt; unfold ks2; omega⟩

section Group1

variable (v : Elt Ideal .f32) (X Y Z : Vec Ideal S1x1x4x512x128 .bf16) (k : Fin k0_t2_loop.trips) (a : Fin 128) (r : Fin 4) (i : Fin 512)
  (hr : r.val = k.val / 4) (hi : i.val = k.val % 4 * 128 + a.val)

/-- Query row `i` of class `r` against all keys of the class. -/
abbrev row2 (v : Elt Ideal .f32) (X Y : Vec Ideal S1x1x4x512x128 .bf16) (r : Fin 4) (i : Fin 512) : Fin 512 → EReal :=
  row v 4 (fun i x => X (ix5 0 0 r i x)) (fun j x => Y (ix5 0 0 r j x)) i

theorem key2_inj : Function.Injective (key2 k) := fun c d h => Fin.ext (by have := congrArg Fin.val h; simp only [key2] at this; omega)

include hi in
theorem key2_out (j : Fin 512) (hj : j ∉ Set.range (key2 k)) : row2 v X Y r i j = ⊥ := by
  have ht : k.val < 16 := lt_of_lt_of_eq k.isLt trips2
  have hj' : ¬(ks2 k.val ≤ j.val ∧ j.val < ks2 k.val + 256) := fun h =>
    hj ⟨⟨j.val - ks2 k.val, by omega⟩, Fin.ext (by simp only [key2]; omega)⟩
  refine score_out ?_
  unfold ks2 at hj'
  rw [lt_abs]
  omega

include hr in
theorem qt2_at (i : Fin 512) (hi : i.val = k.val % 4 * 128 + a.val) (x : Fin 128) : qt2 X k (ix5 0 0 0 a x) = X (ix5 0 0 r i x) := by
  refine ld_at X _ _ _ fun b => ?_
  simp only [Rect.unit, off5_at]
  fin_cases b <;> simp [hi, hr]
include hr in
theorem kt2_at (c : Fin 256) (x : Fin 128) : kt2 X k (ix5 0 0 0 c x) = X (ix5 0 0 r (key2 k c) x) := by
  refine ld_at X _ _ _ fun b => ?_
  simp only [Rect.unit, off6_at]
  fin_cases b <;> simp [key2, hr]

include hr hi in
theorem pay7_at (c : Fin 256) : k0_pay7 (F := Ideal) (k0_pay20 v) k0_pay21 0#32 1#32 k (qt2 X k) (kt2 Y k) (ix2 a c) = row2 v X Y r i (key2 k c) := by
  have hz : |((key2 k c).val : ℤ) - i.val| < 2 ^ 30 := by rw [abs_lt]; omega
  pointwise [k0_pay7, k0_pay20, k0_pay21]
  refine (score_ker v _ 4 neg4 _ _ _ hz _ (dist_word a.val c.val _ _ _ (word2 k) ?_) _ mask_bot).trans ?_
  · simp only [key2]; push_cast; omega
  · exact congrArg₂ (fun q p => score v 4 q p _) (funext fun x => qt2_at X k a r hr i hi x) (funext fun x => kt2_at Y k r hr c x)

theorem pay9_at (c : Fin 256) (Q : Vec Ideal S1x1x1x128x128 .bf16) (K : Vec Ideal S1x1x1x256x128 .bf16) (V15 : FVec Ideal S1x256 .f32) (V18 : IVec S128x256 32) :
    k0_pay9 (F := Ideal) V15 V18 0#32 1#32 k Q K (ix2 a c)
      = k0_pay7 (F := Ideal) V15 V18 0#32 1#32 k Q K (ix2 a c) - mx (fun c => k0_pay7 (F := Ideal) V15 V18 0#32 1#32 k Q K (ix2 a c)) := by
  unfold mx
  rw [← ofBits_bot]
  pointwise [k0_pay9, k0_pay8]

include hr hi in
/-- The tile's output row. -/
theorem ov2_at (d : Fin 128) : ov2 v X Y Z k (ix2 a d) = gO (row2 v X Y r i) (fun j => Z (ix5 0 0 r j d)) := by
  rw [gO_win (key2 k) (key2_inj k) _ _ (key2_out v X Y k a r i hi)]
  unfold ov2
  pointwise [k0_pay24, k0_pay22, k0_pay23, k0_pay6]
  simp only [pay9_at, pay7_at v X Y k a r i hr hi]
  exact congrArg₂ Ideal.div (Finset.sum_congr rfl fun c _ => congrArg (wt (row2 v X Y r i ∘ key2 k) c * ·) (kt2_at Z k r hr c d)) rfl

include hr hi in
/-- The tile's logarithm row. -/
theorem lv2_at (d : Fin 128) : lv2 v X Y k (ix2 a d) = gL (row2 v X Y r i) := by
  rw [gL_win (key2 k) (key2_inj k) _ (key2_out v X Y k a r i hi)]
  unfold lv2
  pointwise [k0_pay25, k0_pay22, k0_pay23, k0_pay8]
  simp only [pay9_at, pay7_at v X Y k a r i hr hi, ofBits_bot]
  rfl

end Group1

/-! ## Group 2, whose window is the whole class -/

section Group2

variable (v : Elt Ideal .f32) (X Y Z : Vec Ideal S1x1x16x128x128 .bf16) (k : Fin k0_t3_loop.trips) (a : Fin 128) (r : Fin 16)
  (hr : r.val = k.val)

/-- Query row `i` of class `r` against all keys of the class. -/
abbrev row3 (v : Elt Ideal .f32) (X Y : Vec Ideal S1x1x16x128x128 .bf16) (r : Fin 16) (i : Fin 128) : Fin 128 → EReal :=
  row v 16 (fun i x => X (ix5 0 0 r i x)) (fun j x => Y (ix5 0 0 r j x)) i

include hr in
theorem qt3_at (a x : Fin 128) : qt3 X k (ix5 0 0 0 a x) = X (ix5 0 0 r a x) := by
  refine ld_at X _ _ _ fun b => ?_
  simp only [Rect.unit, off8_at]
  fin_cases b <;> simp [hr]
include hr in
theorem kt3_at (c x : Fin 128) : kt3 X k (ix5 0 0 0 c x) = X (ix5 0 0 r c x) := by
  refine ld_at X _ _ _ fun b => ?_
  simp only [Rect.unit, off9_at]
  fin_cases b <;> simp [hr]

include hr in
theorem pay11_at (c : Fin 128) : k0_pay11 (F := Ideal) (k0_pay26 v) k0_pay27 0#32 1#32 k (qt3 X k) (kt3 Y k) (ix2 a c) = row3 v X Y r a c := by
  have hz : |(c.val : ℤ) - a.val| < 2 ^ 30 := by rw [abs_lt]; omega
  pointwise [k0_pay11, k0_pay26, k0_pay27]
  refine (score_ker v _ 16 neg16 _ _ _ hz _ (dist_word a.val c.val _ _ _ (word3 k) (add_zero _).symm) _ mask_bot).trans ?_
  exact congrArg₂ (fun q p => score v 16 q p _) (funext fun x => qt3_at X k r hr a x) (funext fun x => kt3_at Y k r hr c x)

theorem pay13_at (c : Fin 128) (Q K : Vec Ideal S1x1x1x128x128 .bf16) (V15 : FVec Ideal S1x128 .f32) (V18 : IVec S128x128 32) :
    k0_pay13 (F := Ideal) V15 V18 0#32 1#32 k Q K (ix2 a c)
      = k0_pay11 (F := Ideal) V15 V18 0#32 1#32 k Q K (ix2 a c) - mx (fun c => k0_pay11 (F := Ideal) V15 V18 0#32 1#32 k Q K (ix2 a c)) := by
  unfold mx
  rw [← ofBits_bot]
  pointwise [k0_pay13, k0_pay12]

include hr in
/-- The tile's output row. -/
theorem ov3_at (d : Fin 128) : ov3 v X Y Z k (ix2 a d) = gO (row3 v X Y r a) (fun j => Z (ix5 0 0 r j d)) := by
  unfold ov3
  pointwise [k0_pay30, k0_pay28, k0_pay29, k0_pay10]
  simp only [pay13_at, pay11_at v X Y k a r hr]
  exact congrArg₂ Ideal.div (Finset.sum_congr rfl fun c _ => congrArg (wt (row3 v X Y r a) c * ·) (kt3_at Z k r hr c d)) rfl

include hr in
/-- The tile's logarithm row. -/
theorem lv3_at (d : Fin 128) : lv3 v X Y k (ix2 a d) = gL (row3 v X Y r a) := by
  unfold lv3
  pointwise [k0_pay31, k0_pay28, k0_pay29, k0_pay12]
  simp only [pay13_at, pay11_at v X Y k a r hr, ofBits_bot]
  rfl

end Group2

end Cert.KernelIdeal.Att
-- ==== Proof.KerValue.lean ====
/-
  The attention kernel's result array: what every grid point leaves, put together.
-/
module

public import proofs.«01_k».proof.Proof.KerTile
public import Idealize.ShloMosaic.Lib.Pipeline.Value
public import Idealize.ShloMosaic.Lib.Pipeline.ValueKit.Tiles

@[expose] public section

set_option maxRecDepth 16384
set_option maxHeartbeats 400000

noncomputable section

namespace Cert.KernelIdeal.Att

open Cert.KernelIdeal Cert.KernelIdeal.Gen
open Idealize.ShloMosaic Idealize.ShloMosaic.TcCoe Idealize.SL.Sem
open Idealize.ShloMosaic.Pipeline (Dat)
open Cert.Band

/-! ## One grid point's output block -/

/-- The combination of the three groups, entry by entry. -/
theorem cmb_at (l0 l1 l2 o0 o1 o2 : Vec Ideal S1x256x128 .f32) (a : Fin 256) (d : Fin 128) :
    cmb (F := Ideal) l0 l1 l2 o0 o1 o2 (ix3 0 a d)
      = gO ![l0 (ix3 0 a d), l1 (ix3 0 a d), l2 (ix3 0 a d)] ![o0 (ix3 0 a d), o1 (ix3 0 a d), o2 (ix3 0 a d)] := by
  unfold gO wt
  rw [mx3, Fin.sum_univ_three, Fin.sum_univ_three]
  pointwise [cmb, k0_pay33, k0_pay32]

section Out

variable (O L : Vec Ideal S3x2048x128 .f32)

/-- One run of rows holds the combination of the scratch buffers' rows. -/
theorem run_at (n : ℕ) (h0 : ∀ a, (![0, n, 0] : Fin 3 → ℕ) a + S1x256x128.size a ≤ S3x2048x128.size a)
    (h1 : ∀ a, (![1, n, 0] : Fin 3 → ℕ) a + S1x256x128.size a ≤ S3x2048x128.size a)
    (h2 : ∀ a, (![2, n, 0] : Fin 3 → ℕ) a + S1x256x128.size a ≤ S3x2048x128.size a) (s : Fin 2048) (d : Fin 128) :
    View.TileAt (S := S1x2048x128) (e := .bf16) (Val := Elt Ideal) (ix3 0 s d) ![0, n, 0] S1x256x128.size
      (cmb (View.ld L (Rect.unit (s := S3x2048x128) ![0, n, 0] S1x256x128.size h0)) (View.ld L (Rect.unit (s := S3x2048x128) ![1, n, 0] S1x256x128.size h1))
        (View.ld L (Rect.unit (s := S3x2048x128) ![2, n, 0] S1x256x128.size h2)) (View.ld O (Rect.unit (s := S3x2048x128) ![0, n, 0] S1x256x128.size h0))
        (View.ld O (Rect.unit (s := S3x2048x128) ![1, n, 0] S1x256x128.size h1)) (View.ld O (Rect.unit (s := S3x2048x128) ![2, n, 0] S1x256x128.size h2)))
      (gO ![L (ix3 0 s d), L (ix3 1 s d), L (ix3 2 s d)] ![O (ix3 0 s d), O (ix3 1 s d), O (ix3 2 s d)]) := by
  intro x hx
  obtain ⟨z, a, l, rfl⟩ : ∃ (z : Fin 1) (a : Fin 256) (l : Fin 128), x = ix3 z a l := ⟨x 0, x 1, x 2, eq_ix3 x⟩
  obtain rfl : z = 0 := Subsingleton.elim _ _
  have e1 : s.val = n + a.val := hx 1
  have e2 : d.val = l.val := (hx 2).trans (Nat.zero_add _)
  obtain rfl : d = l := Fin.ext e2
  have hl (X : Vec Ideal S3x2048x128 .f32) (g : Fin 3) (m : ℕ) (hm : g.val = m) (h : ∀ a, (![m, n, 0] : Fin 3 → ℕ) a + S1x256x128.size a ≤ S3x2048x128.size a) :
      View.ld X (Rect.unit (s := S3x2048x128) ![m, n, 0] S1x256x128.size h) (ix3 0 a d) = X (ix3 g s d) := by
    refine ld_at X _ _ _ fun b => ?_
    simp only [Rect.unit]
    fin_cases b <;> simp [hm, e1]
  rw [cmb_at, hl L 0 0 rfl, hl L 1 1 rfl, hl L 2 2 rfl, hl O 0 0 rfl, hl O 1 1 rfl, hl O 2 2 rfl]

/-- The output block, entry by entry. -/
theorem outS_at (s : Fin 2048) (d : Fin 128) :
    outS O L (ix3 0 s d) = gO ![L (ix3 0 s d), L (ix3 1 s d), L (ix3 2 s d)] ![O (ix3 0 s d), O (ix3 1 s d), O (ix3 2 s d)] := by
  unfold outS
  refine View.canon_eq_of_allAt _ _ _ (cover_out _ _ _ _ _ _ _ _ _) ?_
  exact View.allAt_cons_unit _ _ _ _ _ (run_at O L 1792 _ _ _ s d) <| View.allAt_cons_unit _ _ _ _ _ (run_at O L 1536 _ _ _ s d) <|
    View.allAt_cons_unit _ _ _ _ _ (run_at O L 1280 _ _ _ s d) <| View.allAt_cons_unit _ _ _ _ _ (run_at O L 1024 _ _ _ s d) <|
    View.allAt_cons_unit _ _ _ _ _ (run_at O L 768 _ _ _ s d) <| View.allAt_cons_unit _ _ _ _ _ (run_at O L 512 _ _ _ s d) <|
    View.allAt_cons_unit _ _ _ _ _ (run_at O L 256 _ _ _ s d) <| View.allAt_cons_unit _ _ _ _ _ (run_at O L 0 _ _ _ s d) <| View.allAt_nil _ _

end Out

section Scr

variable (i : grid0.Coords) (x0 : Vec Ideal S12 .f32) (x1 x2 x3 : Vec Ideal S1x1x1x2048x128 .bf16) (x4 x5 x6 : Vec Ideal S1x1x4x512x128 .bf16)
  (x7 x8 x9 : Vec Ideal S1x1x16x128x128 .bf16) (s : Fin 2048) (d : Fin 128)

theorem scr_0 (w1 : Fin k0_t1_loop.trips → FVec Ideal S1x128x128 .f32) (w2 : Fin k0_t2_loop.trips → FVec Ideal S128x128 .f32)
    (w3 : Fin k0_t3_loop.trips → FVec Ideal S128x128 .f32) : scr w1 w2 w3 (ix3 0 s d) = w1 (tr1 s) (ix3 0 (rw1 s) d) := rfl
theorem scr_1 (w1 : Fin k0_t1_loop.trips → FVec Ideal S1x128x128 .f32) (w2 : Fin k0_t2_loop.trips → FVec Ideal S128x128 .f32)
    (w3 : Fin k0_t3_loop.trips → FVec Ideal S128x128 .f32) : scr w1 w2 w3 (ix3 1 s d) = w2 (tr2 s) (ix2 (rw2 s) d) := rfl
theorem scr_2 (w1 : Fin k0_t1_loop.trips → FVec Ideal S1x128x128 .f32) (w2 : Fin k0_t2_loop.trips → FVec Ideal S128x128 .f32)
    (w3 : Fin k0_t3_loop.trips → FVec Ideal S128x128 .f32) : scr w1 w2 w3 (ix3 2 s d) = w3 (tr3 s) (ix2 (rw3 s) d) := rfl

theorem at1 : s.val = 128 * (tr1 s).val + (rw1 s).val := by simp only [tr1, rw1]; omega
theorem at2r : (cls4 s).val = (tr2 s).val / 4 := by simp only [tr2, cls4]; omega
theorem at2i : (pos4 s).val = (tr2 s).val % 4 * 128 + (rw2 s).val := by
  have h : (4 * (s.val % 4) + s.val / 512) % 4 = s.val / 512 := by omega
  simp only [tr2, rw2, pos4, h]
  omega

theorem scrO0 : scrO i x0 x1 x2 x3 x4 x5 x6 x7 x8 x9 (ix3 0 s d) = gO (row1 (slw i x0 0) x1 x2 s) (fun j => x3 (ix5 0 0 0 j d)) :=
  (scr_0 ..).trans (ov1_at _ _ _ _ (tr1 s) (rw1 s) s (at1 s) d)
theorem scrO1 : scrO i x0 x1 x2 x3 x4 x5 x6 x7 x8 x9 (ix3 1 s d)
    = gO (row2 (slw i x0 1) x4 x5 (cls4 s) (pos4 s)) (fun j => x6 (ix5 0 0 (cls4 s) j d)) :=
  (scr_1 ..).trans (ov2_at _ _ _ _ (tr2 s) (rw2 s) (cls4 s) (pos4 s) (at2r s) (at2i s) d)
theorem scrO2 : scrO i x0 x1 x2 x3 x4 x5 x6 x7 x8 x9 (ix3 2 s d)
    = gO (row3 (slw i x0 2) x7 x8 (cls16 s) (pos16 s)) (fun j => x9 (ix5 0 0 (cls16 s) j d)) :=
  (scr_2 ..).trans (ov3_at _ _ _ _ (tr3 s) (rw3 s) (cls16 s) rfl d)
theorem scrL0 : scrL i x0 x1 x2 x4 x5 x7 x8 (ix3 0 s d) = gL (row1 (slw i x0 0) x1 x2 s) :=
  (scr_0 ..).trans (lv1_at _ _ _ (tr1 s) (rw1 s) s (at1 s) d)
theorem scrL1 : scrL i x0 x1 x2 x4 x5 x7 x8 (ix3 1 s d) = gL (row2 (slw i x0 1) x4 x5 (cls4 s) (pos4 s)) :=
  (scr_1 ..).trans (lv2_at _ _ _ (tr2 s) (rw2 s) (cls4 s) (pos4 s) (at2r s) (at2i s) d)
theorem scrL2 : scrL i x0 x1 x2 x4 x5 x7 x8 (ix3 2 s d) = gL (row3 (slw i x0 2) x7 x8 (cls16 s) (pos16 s)) :=
  (scr_2 ..).trans (lv3_at _ _ _ (tr3 s) (rw3 s) (cls16 s) rfl d)

end Scr

/-! ## The blocks of the arguments -/

variable (m : (ℓ : Loc nD τ sig) → Buf (Elt Ideal) ℓ) (ρ : Dev nD → PrngReg) (c : Dev nD)

/-- The arguments by coordinates. -/
abbrev argS (c : Dev nD) (j : Fin 12) : EReal := m ((c.tc : Thread nD τ).loc main_arg0) (ix1 j)
abbrev argA (c : Dev nD) (b : Fin 8) (w : Fin 12) (r : Fin 1) (i : Fin 2048) (x : Fin 128) : EReal := m ((c.tc : Thread nD τ).loc main_arg1) (ix5 b w r i x)
abbrev argB (c : Dev nD) (b : Fin 8) (w : Fin 12) (r : Fin 4) (i : Fin 512) (x : Fin 128) : EReal := m ((c.tc : Thread nD τ).loc main_arg2) (ix5 b w r i x)
abbrev argC (c : Dev nD) (b : Fin 8) (w : Fin 12) (r : Fin 16) (i : Fin 128) (x : Fin 128) : EReal := m ((c.tc : Thread nD τ).loc main_arg3) (ix5 b w r i x)

/-- The batch and the head of a grid point. -/
def gb (t : Fin cfg0.N) : Fin 8 := ⟨t.val / 4, by have := lt_of_lt_of_eq t.isLt (show cfg0.N = 32 from N_0); omega⟩
def gh (t : Fin cfg0.N) : Fin 4 := ⟨t.val % 4, by omega⟩

theorem tf0 : ∀ t : Fin grid0.N, cc0_transform_0 (grid0.coords t) = ![0] := by decide +kernel
theorem tf1 : ∀ t : Fin grid0.N, cc0_transform_1 (grid0.coords t) = ![t.val / 4, t.val % 4, 0, 0, 0] := by decide +kernel
theorem tf2 : ∀ t : Fin grid0.N, cc0_transform_2 (grid0.coords t) = ![t.val / 4, 4 + t.val % 4, 0, 0, 0] := by decide +kernel
theorem tf3 : ∀ t : Fin grid0.N, cc0_transform_3 (grid0.coords t) = ![t.val / 4, 8 + t.val % 4, 0, 0, 0] := by decide +kernel
theorem tf4 : ∀ t : Fin grid0.N, cc0_transform_4 (grid0.coords t) = ![t.val / 4, t.val % 4, 0, 0, 0] := by decide +kernel
theorem tf5 : ∀ t : Fin grid0.N, cc0_transform_5 (grid0.coords t) = ![t.val / 4, 4 + t.val % 4, 0, 0, 0] := by decide +kernel
theorem tf6 : ∀ t : Fin grid0.N, cc0_transform_6 (grid0.coords t) = ![t.val / 4, 8 + t.val % 4, 0, 0, 0] := by decide +kernel
theorem tf7 : ∀ t : Fin grid0.N, cc0_transform_7 (grid0.coords t) = ![t.val / 4, t.val % 4, 0, 0, 0] := by decide +kernel
theorem tf8 : ∀ t : Fin grid0.N, cc0_transform_8 (grid0.coords t) = ![t.val / 4, 4 + t.val % 4, 0, 0, 0] := by decide +kernel
theorem tf9 : ∀ t : Fin grid0.N, cc0_transform_9 (grid0.coords t) = ![t.val / 4, 8 + t.val % 4, 0, 0, 0] := by decide +kernel
theorem tf10 : ∀ t : Fin grid0.N, cc0_transform_10 (grid0.coords t) = ![t.val / 4, 0, t.val % 4] := by decide +kernel

/-- Where an input block's entry lies in its array. -/
theorem blk5 {R L : ℕ} (idx : Fin 5 → ℕ) (n w : ℕ) (hidx : idx = ![n, w, 0, 0, 0])
    (h : ∀ a, (idx a + 1) * (⟨5, ![1, 1, R, L, 128]⟩ : Shape).size a ≤ (⟨5, ![8, 12, R, L, 128]⟩ : Shape).size a)
    (b : Fin 8) (hb : b.val = n) (k : Fin 12) (hk : k.val = w) (r : Fin R) (i : Fin L) (x : Fin 128) :
    (Rect.block (s := ⟨5, ![8, 12, R, L, 128]⟩) (⟨5, ![1, 1, R, L, 128]⟩ : Shape).size idx h).emb (ix5 (0 : Fin 1) (0 : Fin 1) r i x) = ix5 b k r i x := by
  subst hidx hb hk
  refine Rect.emb_eq_of_coords _ _ _ fun a => ?_
  fin_cases a <;> simp [Rect.block]

variable (t : Fin cfg0.N) (x : Fin 128)

/-- The blocks' entries, by the arguments' coordinates. -/
theorem iblk0_at (j : Fin 12) : (iblk m c 0 t : Vec Ideal S12 .f32) (ix1 j) = argS m c j :=
  congrArg (m (c.tc.loc main_arg0)) (funext fun a => Fin.ext (match a with
    | ⟨0, _⟩ => by show cc0_transform_0 (grid0.coords t) 0 * 12 + 1 * j.val = j.val; rw [tf0]; simp))
theorem iblk1_at (r : Fin 1) (i : Fin 2048) : (iblk m c 1 t : Vec Ideal S1x1x1x2048x128 .bf16) (ix5 0 0 r i x) = argA m c (gb t) ⟨(gh t).val, by omega⟩ r i x :=
  congrArg (m (c.tc.loc main_arg1)) (blk5 _ _ _ (tf1 t) (hinb0_1 (grid0.coords t)) (gb t) rfl _ rfl r i x)
theorem iblk2_at (r : Fin 1) (i : Fin 2048) : (iblk m c 2 t : Vec Ideal S1x1x1x2048x128 .bf16) (ix5 0 0 r i x) = argA m c (gb t) ⟨4 + (gh t).val, by omega⟩ r i x :=
  congrArg (m (c.tc.loc main_arg1)) (blk5 _ _ _ (tf2 t) (hinb0_2 (grid0.coords t)) (gb t) rfl _ rfl r i x)
theorem iblk3_at (r : Fin 1) (i : Fin 2048) : (iblk m c 3 t : Vec Ideal S1x1x1x2048x128 .bf16) (ix5 0 0 r i x) = argA m c (gb t) ⟨8 + (gh t).val, by omega⟩ r i x :=
  congrArg (m (c.tc.loc main_arg1)) (blk5 _ _ _ (tf3 t) (hinb0_3 (grid0.coords t)) (gb t) rfl _ rfl r i x)
theorem iblk4_at (r : Fin 4) (i : Fin 512) : (iblk m c 4 t : Vec Ideal S1x1x4x512x128 .bf16) (ix5 0 0 r i x) = argB m c (gb t) ⟨(gh t).val, by omega⟩ r i x :=
  congrArg (m (c.tc.loc main_arg2)) (blk5 _ _ _ (tf4 t) (hinb0_4 (grid0.coords t)) (gb t) rfl _ rfl r i x)
theorem iblk5_at (r : Fin 4) (i : Fin 512) : (iblk m c 5 t : Vec Ideal S1x1x4x512x128 .bf16) (ix5 0 0 r i x) = argB m c (gb t) ⟨4 + (gh t).val, by omega⟩ r i x :=
  congrArg (m (c.tc.loc main_arg2)) (blk5 _ _ _ (tf5 t) (hinb0_5 (grid0.coords t)) (gb t) rfl _ rfl r i x)
theorem iblk6_at (r : Fin 4) (i : Fin 512) : (iblk m c 6 t : Vec Ideal S1x1x4x512x128 .bf16) (ix5 0 0 r i x) = argB m c (gb t) ⟨8 + (gh t).val, by omega⟩ r i x :=
  congrArg (m (c.tc.loc main_arg2)) (blk5 _ _ _ (tf6 t) (hinb0_6 (grid0.coords t)) (gb t) rfl _ rfl r i x)
theorem iblk7_at (r : Fin 16) (i : Fin 128) : (iblk m c 7 t : Vec Ideal S1x1x16x128x128 .bf16) (ix5 0 0 r i x) = argC m c (gb t) ⟨(gh t).val, by omega⟩ r i x :=
  congrArg (m (c.tc.loc main_arg3)) (blk5 _ _ _ (tf7 t) (hinb0_7 (grid0.coords t)) (gb t) rfl _ rfl r i x)
theorem iblk8_at (r : Fin 16) (i : Fin 128) : (iblk m c 8 t : Vec Ideal S1x1x16x128x128 .bf16) (ix5 0 0 r i x) = argC m c (gb t) ⟨4 + (gh t).val, by omega⟩ r i x :=
  congrArg (m (c.tc.loc main_arg3)) (blk5 _ _ _ (tf8 t) (hinb0_8 (grid0.coords t)) (gb t) rfl _ rfl r i x)
theorem iblk9_at (r : Fin 16) (i : Fin 128) : (iblk m c 9 t : Vec Ideal S1x1x16x128x128 .bf16) (ix5 0 0 r i x) = argC m c (gb t) ⟨8 + (gh t).val, by omega⟩ r i x :=
  congrArg (m (c.tc.loc main_arg3)) (blk5 _ _ _ (tf9 t) (hinb0_9 (grid0.coords t)) (gb t) rfl _ rfl r i x)

/-- The slope a grid point reads for group `j`. -/
theorem slw_at (j : Fin 3) : slw (grid0.coords t) (iblk m c 0 t) j = argS m c ⟨4 * j.val + (gh t).val, by omega⟩ := by
  have h : ∀ (t : Fin grid0.N) (j : Fin 3), k0_off1 (grid0.coords t) (BitVec.ofNat 32 (4 * j.val)) = ![4 * j.val + t.val % 4] := by decide +kernel
  rw [← iblk0_at m c t]
  refine ld_at (iblk m c 0 t : Vec Ideal S12 .f32) _ _ _ fun a => match a with
    | ⟨0, _⟩ => ?_
  show 4 * j.val + t.val % 4 = k0_off1 (grid0.coords t) (BitVec.ofNat 32 (4 * j.val)) 0 + 1 * 0
  rw [h t j]
  rfl

/-! ## The result array -/

/-- What the result array ends holding. -/
def result (c : Dev nD) : Buf (Elt Ideal) ((c.tc : Thread nD τ).loc main_v0) := fun (y : S8x2048x512.Idx) =>
  att (argS m c) (argA m c) (argB m c) (argC m c) (y 0) (y 1) ⟨(y 2).val / 128, by have : (y 2).val < 512 := (y 2).isLt; omega⟩
    ⟨(y 2).val % 128, by omega⟩

/-- The block a grid point leaves. -/
theorem out_at (s : Fin 2048) (d : Fin 128) :
    ((dats m 0 c).after 10 t : Vec Ideal S1x2048x128 .bf16) (ix3 0 s d) = att (argS m c) (argA m c) (argB m c) (argC m c) (gb t) s (gh t) d := by
  refine (outS_at _ _ s d).trans ?_
  rw [scrO0, scrO1, scrO2, scrL0, scrL1, scrL2, slw_at, slw_at, slw_at]
  unfold att rowOf valOf row1 row2 row3
  simp only [iblk1_at, iblk2_at, iblk3_at, iblk4_at, iblk5_at, iblk6_at, iblk7_at, iblk8_at, iblk9_at]

end Cert.KernelIdeal.Att
-- ==== Proof.KerRun.lean ====
/-
  The attention kernel's run, read: the result array holds the attention of every row.
-/
module

public import proofs.«01_k».proof.Proof.KerValue

@[expose] public section

set_option maxRecDepth 16384
set_option maxHeartbeats 400000

noncomputable section

namespace Cert.KernelIdeal.Att

open Cert.KernelIdeal Cert.KernelIdeal.Gen
open Idealize.ShloMosaic Idealize.ShloMosaic.TcCoe Idealize.SL.Sem
open Idealize.ShloMosaic.Pipeline (Dat)
open Cert.Band

variable (m : (ℓ : Loc nD τ sig) → Buf (Elt Ideal) ℓ) (ρ : Dev nD → PrngReg) (c : Dev nD)

/-- Where the output block's entry lies in the result array. -/
theorem blk10 (t : Fin cfg0.N) (s : Fin 2048) (d : Fin 128) :
    (Rect.block (s := S8x2048x512) S1x2048x128.size (cc0_transform_10 (grid0.coords t)) (hinb0_10 (grid0.coords t))).emb (ix3 (0 : Fin 1) s d)
      = ix3 (gb t) s ⟨(gh t).val * 128 + d.val, by omega⟩ := by
  refine Rect.emb_eq_of_coords _ _ _ fun a => ?_
  simp only [Rect.block, tf10]
  fin_cases a <;> simp [gb, gh]

/-- What a grid point writes back is its block of the result. -/
theorem flushed_at (t : Fin cfg0.N) : (dats m 0 c).flushed 10 t = ((cfg0.win 10).blk t).view.read (Elt Ideal) (result m c) := by
  refine funext fun (y : S1x2048x128.Idx) => ?_
  obtain ⟨z, s, d, rfl⟩ : ∃ (z : Fin 1) (s : Fin 2048) (d : Fin 128), y = ix3 z s d := ⟨y 0, y 1, y 2, eq_ix3 y⟩
  obtain rfl : z = 0 := Subsingleton.elim _ _
  refine (out_at m c t s d).trans ?_
  refine Eq.trans ?_ (congrArg (result m c) (blk10 t s d)).symm
  have h1 : (⟨((gh t).val * 128 + d.val) / 128, by omega⟩ : Fin 4) = gh t := Fin.ext (by show _ / 128 = _; omega)
  have h2 : (⟨((gh t).val * 128 + d.val) % 128, by omega⟩ : Fin 128) = d := Fin.ext (by show _ % 128 = _; omega)
  show _ = att (argS m c) (argA m c) (argB m c) (argC m c) (gb t) s ⟨((gh t).val * 128 + d.val) / 128, _⟩ ⟨((gh t).val * 128 + d.val) % 128, _⟩
  rw [h1, h2]

/-- Every entry lies in the block of its batch and head. -/
theorem mem_blk (t : Fin cfg0.N) (i : S8x2048x512.Idx) (h0 : (i 0).val = t.val / 4) (h2 : (i 2).val / 128 = t.val % 4) :
    i ∈ ((cfg0.win 10).blk t).view.set := by
  have h1 : (i 1).val < 2048 := (i 1).isLt
  show i ∈ ((View.whole main_v0).slice (win0_10.rect t)).set
  rw [View.set_slice_whole, Rect.mem_set_unit]
  intro a
  match a with
  | ⟨0, _⟩ => show cc0_transform_10 (grid0.coords t) 0 * 1 ≤ (i 0).val ∧ (i 0).val < cc0_transform_10 (grid0.coords t) 0 * 1 + 1
              rw [tf10]; show t.val / 4 * 1 ≤ _ ∧ _ < t.val / 4 * 1 + 1; omega
  | ⟨1, _⟩ => show cc0_transform_10 (grid0.coords t) 1 * 2048 ≤ (i 1).val ∧ (i 1).val < cc0_transform_10 (grid0.coords t) 1 * 2048 + 2048
              rw [tf10]; show 0 * 2048 ≤ _ ∧ _ < 0 * 2048 + 2048; omega
  | ⟨2, _⟩ => show cc0_transform_10 (grid0.coords t) 2 * 128 ≤ (i 2).val ∧ (i 2).val < cc0_transform_10 (grid0.coords t) 2 * 128 + 128
              rw [tf10]; show t.val % 4 * 128 ≤ _ ∧ _ < t.val % 4 * 128 + 128; omega

/-- The result array ends holding the attention. -/
theorem final_o : (dats m 0 c).arrAt 10 cfg0.N = result m c :=
  (dats m 0 c).arrAt_eq_of_cover 10 (result m c) (fun t _ => flushed_at m c t) fun (i : S8x2048x512.Idx) =>
    have h0 : (i 0).val < 8 := (i 0).isLt
    have h2 : (i 2).val < 512 := (i 2).isLt
    have hlt : 4 * (i 0).val + (i 2).val / 128 < cfg0.N := lt_of_lt_of_eq (by omega : _ < 32) N_0.symm
    ⟨⟨4 * (i 0).val + (i 2).val / 128, hlt⟩, flush0_10 _, mem_blk _ i
      (show (i 0).val = (4 * (i 0).val + (i 2).val / 128) / 4 by omega) (show (i 2).val / 128 = (4 * (i 0).val + (i 2).val / 128) % 4 by omega)⟩

/-- The run, read: the result array at the attention, the arguments unchanged. -/
theorem run : θ_run defs (onTc (τ := τ) (main (F := Ideal))) ⟨m, fun _ => 0, ρ⟩ fun r => ∀ c : Dev nD,
      r.2.mem ((c.tc : Thread nD τ).loc main_v0) = result m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 10).trans (final_o m c), h.2.1 c⟩)
    (θ_run_and (run_main m ρ) (frame m ρ))

end Cert.KernelIdeal.Att
-- ==== Proof.RefValue.lean ====
/-
  The reference's value: its last operation's result holds, at every entry, the attention of the row.
-/
module

public import proofs.«01_k».proof.Proof.Band
public import proofs.«01_k».proof.Proof.Gen.ReferenceIdeal.Read

@[expose] public section

set_option maxRecDepth 16384
set_option maxHeartbeats 400000

noncomputable section

namespace Cert.ReferenceIdeal.Att

open Cert.ReferenceIdeal Cert.ReferenceIdeal.Gen Cert.ReferenceIdeal.Read
open Idealize.ShloMosaic Idealize.ShloMosaic.TcCoe Idealize.SL.Sem
open Cert.Band

/-- The average as the reference spells it: the maximum starts from `⊥`, the sum from `0`. -/
theorem avg_eq {n : ℕ} (S V : Fin n → EReal) (e z : EReal) (he : e = ⊥) (hz : z = 0) :
    Ideal.div (∑ x, Ideal.exp (S x - Finset.univ.fold max e S) * V x) (z + ∑ x, Ideal.exp (S x - Finset.univ.fold max e S)) = gO S V := by
  subst he hz
  rw [zero_add]
  rfl
/-- The sum of the weights as the reference spells it. -/
theorem sum_eq {n : ℕ} (S : Fin n → EReal) (e z : EReal) (he : e = ⊥) (hz : z = 0) :
    z + ∑ x, Ideal.exp (S x - Finset.univ.fold max e S) = ∑ x, wt S x := by
  subst he hz
  rw [zero_add]
  rfl
/-- The logarithm of the sum as the reference's operations spell it. -/
theorem gL_host {n : ℕ} (S : Fin n → EReal) :
    FloatOps.addf (F := Ideal) (φ := .f32) (mx S) (FloatOps.hostUnary (F := Ideal) (φ := .f32) .log (∑ j, wt S j)) = gL S := by
  unfold gL
  generalize mx S = p
  generalize (∑ j, wt S j) = q
  rfl

variable (x0 : (⟨S12, .f32⟩ : BufTy).Contents (Elt Ideal)) (x1 : (⟨S8x12x1x2048x128, .bf16⟩ : BufTy).Contents (Elt Ideal))
  (x2 : (⟨S8x12x4x512x128, .bf16⟩ : BufTy).Contents (Elt Ideal)) (x3 : (⟨S8x12x16x128x128, .bf16⟩ : BufTy).Contents (Elt Ideal))

/-- The arguments by their coordinates. -/
abbrev sl (j : Fin 12) : EReal := x0 (ix1 j)
abbrev A (b : Fin 8) (w : Fin 12) (r : Fin 1) (i : Fin 2048) (x : Fin 128) : EReal := x1 (ix5 b w r i x)
abbrev B (b : Fin 8) (w : Fin 12) (r : Fin 4) (i : Fin 512) (x : Fin 128) : EReal := x2 (ix5 b w r i x)
abbrev C (b : Fin 8) (w : Fin 12) (r : Fin 16) (i : Fin 128) (x : Fin 128) : EReal := x3 (ix5 b w r i x)

/-! ## Group 0 -/

/-- The masked scores. -/
theorem s0_at (b : Fin 8) (h : Fin 4) (r : Fin 1) (i j : Fin 2048) :
    val_main_v31 (F := Ideal) x0 x1 (ix5 b h r i j) = rowOf (sl x0) 0 1 (A x1) b h r i j := by
  obtain rfl : r = 0 := Subsingleton.elim _ _
  unfold rowOf row
  refine Eq.trans ?_ (score_ref _ 1 (by omega) _ _ _ (by rw [abs_lt]; omega) _ _ (sub_ofNat i.val j.val) rfl)
  pointwise [val_main_v31, val_main_call0_v0, val_main_call0_v1, val_main_call0_v2, val_main_v0, val_main_v1, val_main_v2, val_main_v3,
      val_main_v4, val_main_v5, val_main_v6, val_main_v7, val_main_v8, val_main_v9, val_main_v10, val_main_v11, val_main_v12,
      val_main_v13, val_main_v14, val_main_v15, val_main_v16, val_main_v17, val_main_v18, val_main_v19, val_main_v20, val_main_v21,
      val_main_v22, val_main_v23, val_main_v24, val_main_v25, val_main_v26, val_main_v27, val_main_v28, val_main_v29, val_main_v30,
      val_main_c, val_main_cst, val_main_c_0, val_main_cst_1]
  exact congrArg (Scalar.select _ _) ofBits_bot

/-- The averages. -/
theorem o0_at (b : Fin 8) (h : Fin 4) (r : Fin 1) (i : Fin 2048) (d : Fin 128) :
    val_main_v41 (F := Ideal) x0 x1 (ix5 b h r i d) = gO (rowOf (sl x0) 0 1 (A x1) b h r i) (valOf (A x1) b h r d) := by
  obtain rfl : r = 0 := Subsingleton.elim _ _
  pointwise [val_main_v32, val_main_v33, val_main_v34, val_main_v35, val_main_v36, val_main_v37, val_main_v38, val_main_v39, val_main_v40,
      val_main_v41, val_main_v3, val_main_v0]
  simp only [s0_at]
  exact avg_eq _ _ _ _ ofBits_bot Ideal.ofBits_zero_f32

/-- The maxima, the sums of the weights and their logarithms. -/
theorem m0_at (b : Fin 8) (h : Fin 4) (r : Fin 1) (i : Fin 2048) :
    val_main_v33 (F := Ideal) x0 x1 (ix5 b h r i 0) = mx (rowOf (sl x0) 0 1 (A x1) b h r i) := by
  obtain rfl : r = 0 := Subsingleton.elim _ _
  pointwise [val_main_v33, val_main_v32]
  simp only [s0_at]
  exact congrArg (fun e => Finset.univ.fold max e _) ofBits_bot
theorem w0_at (b : Fin 8) (h : Fin 4) (r : Fin 1) (i : Fin 2048) :
    val_main_v38 (F := Ideal) x0 x1 (ix5 b h r i 0) = ∑ j, wt (rowOf (sl x0) 0 1 (A x1) b h r i) j := by
  obtain rfl : r = 0 := Subsingleton.elim _ _
  pointwise [val_main_v38, val_main_v37, val_main_v36, val_main_v35, val_main_v34, val_main_v33, val_main_v32]
  simp only [s0_at]
  exact sum_eq _ _ _ ofBits_bot Ideal.ofBits_zero_f32
theorem l0_at (b : Fin 8) (h : Fin 4) (r : Fin 1) (i : Fin 2048) :
    val_main_v44 (F := Ideal) x0 x1 (ix4 b h r i) = gL (rowOf (sl x0) 0 1 (A x1) b h r i) := by
  obtain rfl : r = 0 := Subsingleton.elim _ _
  have e : val_main_v44 (F := Ideal) x0 x1 (ix4 b h 0 i) = val_main_v43 (F := Ideal) x0 x1 (ix5 b h 0 i 0) := by
    pointwise [val_main_v44]
  rw [e, val_main_v43_apply, val_main_v42_apply, m0_at, w0_at, gL_host]

/-- The averages by position. -/
theorem out0_at (b : Fin 8) (h : Fin 4) (s : Fin 2048) (d : Fin 128) :
    val_main_v46 (F := Ideal) x0 x1 (ix4 b h s d) = gO (rowOf (sl x0) 0 1 (A x1) b h 0 s) (valOf (A x1) b h 0 d) := by
  refine Eq.trans ?_ (o0_at x0 x1 b h 0 s d)
  pointwise [val_main_v46, val_main_v45]
/-- The logarithms by position. -/
theorem lse0_at (b : Fin 8) (h : Fin 4) (s : Fin 2048) :
    val_main_v48 (F := Ideal) x0 x1 (ix3 b h s) = gL (rowOf (sl x0) 0 1 (A x1) b h 0 s) := by
  refine Eq.trans ?_ (l0_at x0 x1 b h 0 s)
  pointwise [val_main_v48, val_main_v47]

/-! ## Group 1 -/

/-- The masked scores. -/
theorem s1_at (b : Fin 8) (h : Fin 4) (r : Fin 4) (i j : Fin 512) :
    val_main_v80 (F := Ideal) x0 x2 (ix5 b h r i j) = rowOf (sl x0) 1 4 (B x2) b h r i j := by
  unfold rowOf row
  refine Eq.trans ?_ (score_ref _ 4 (by omega) _ _ _ (by rw [abs_lt]; omega) _ _ (sub_ofNat i.val j.val) rfl)
  pointwise [val_main_v80, val_main_call1_v0, val_main_call1_v1, val_main_call1_v2, val_main_v49, val_main_v50, val_main_v51, val_main_v52,
      val_main_v53, val_main_v54, val_main_v55, val_main_v56, val_main_v57, val_main_v58, val_main_v59, val_main_v60, val_main_v61,
      val_main_v62, val_main_v63, val_main_v64, val_main_v65, val_main_v66, val_main_v67, val_main_v68, val_main_v69, val_main_v70,
      val_main_v71, val_main_v72, val_main_v73, val_main_v74, val_main_v75, val_main_v76, val_main_v77, val_main_v78, val_main_v79,
      val_main_c_4, val_main_cst_5, val_main_c_6, val_main_cst_7]
  exact congrArg (Scalar.select _ _) ofBits_bot

/-- The averages. -/
theorem o1_at (b : Fin 8) (h : Fin 4) (r : Fin 4) (i : Fin 512) (d : Fin 128) :
    val_main_v90 (F := Ideal) x0 x2 (ix5 b h r i d) = gO (rowOf (sl x0) 1 4 (B x2) b h r i) (valOf (B x2) b h r d) := by
  pointwise [val_main_v81, val_main_v82, val_main_v83, val_main_v84, val_main_v85, val_main_v86, val_main_v87, val_main_v88, val_main_v89,
      val_main_v90, val_main_v52, val_main_v49]
  simp only [s1_at]
  exact avg_eq _ _ _ _ ofBits_bot Ideal.ofBits_zero_f32

/-- The maxima, the sums of the weights and their logarithms. -/
theorem m1_at (b : Fin 8) (h : Fin 4) (r : Fin 4) (i : Fin 512) :
    val_main_v82 (F := Ideal) x0 x2 (ix5 b h r i 0) = mx (rowOf (sl x0) 1 4 (B x2) b h r i) := by
  pointwise [val_main_v82, val_main_v81]
  simp only [s1_at]
  exact congrArg (fun e => Finset.univ.fold max e _) ofBits_bot
theorem w1_at (b : Fin 8) (h : Fin 4) (r : Fin 4) (i : Fin 512) :
    val_main_v87 (F := Ideal) x0 x2 (ix5 b h r i 0) = ∑ j, wt (rowOf (sl x0) 1 4 (B x2) b h r i) j := by
  pointwise [val_main_v87, val_main_v86, val_main_v85, val_main_v84, val_main_v83, val_main_v82, val_main_v81]
  simp only [s1_at]
  exact sum_eq _ _ _ ofBits_bot Ideal.ofBits_zero_f32
theorem l1_at (b : Fin 8) (h : Fin 4) (r : Fin 4) (i : Fin 512) :
    val_main_v93 (F := Ideal) x0 x2 (ix4 b h r i) = gL (rowOf (sl x0) 1 4 (B x2) b h r i) := by
  have e : val_main_v93 (F := Ideal) x0 x2 (ix4 b h r i) = val_main_v92 (F := Ideal) x0 x2 (ix5 b h r i 0) := by
    pointwise [val_main_v93]
  rw [e, val_main_v92_apply, val_main_v91_apply, m1_at, w1_at, gL_host]

/-- The averages by position. -/
theorem out1_at (b : Fin 8) (h : Fin 4) (s : Fin 2048) (d : Fin 128) :
    val_main_v95 (F := Ideal) x0 x2 (ix4 b h s d) = gO (rowOf (sl x0) 1 4 (B x2) b h (cls4 s) (pos4 s)) (valOf (B x2) b h (cls4 s) d) := by
  refine Eq.trans ?_ (o1_at x0 x2 b h (cls4 s) (pos4 s) d)
  pointwise [val_main_v95, val_main_v94]
  rfl
/-- The logarithms by position. -/
theorem lse1_at (b : Fin 8) (h : Fin 4) (s : Fin 2048) :
    val_main_v97 (F := Ideal) x0 x2 (ix3 b h s) = gL (rowOf (sl x0) 1 4 (B x2) b h (cls4 s) (pos4 s)) := by
  refine Eq.trans ?_ (l1_at x0 x2 b h (cls4 s) (pos4 s))
  pointwise [val_main_v97, val_main_v96]
  rfl

/-! ## Group 2 -/

/-- The masked scores. -/
theorem s2_at (b : Fin 8) (h : Fin 4) (r : Fin 16) (i j : Fin 128) :
    val_main_v129 (F := Ideal) x0 x3 (ix5 b h r i j) = rowOf (sl x0) 2 16 (C x3) b h r i j := by
  unfold rowOf row
  refine Eq.trans ?_ (score_ref _ 16 (by omega) _ _ _ (by rw [abs_lt]; omega) _ _ (sub_ofNat i.val j.val) rfl)
  pointwise [val_main_v129, val_main_call2_v0, val_main_call2_v1, val_main_call2_v2, val_main_v98, val_main_v99, val_main_v100, val_main_v101,
      val_main_v102, val_main_v103, val_main_v104, val_main_v105, val_main_v106, val_main_v107, val_main_v108, val_main_v109,
      val_main_v110, val_main_v111, val_main_v112, val_main_v113, val_main_v114, val_main_v115, val_main_v116, val_main_v117,
      val_main_v118, val_main_v119, val_main_v120, val_main_v121, val_main_v122, val_main_v123, val_main_v124, val_main_v125,
      val_main_v126, val_main_v127, val_main_v128, val_main_c_10, val_main_cst_11, val_main_c_12, val_main_cst_13]
  exact congrArg (Scalar.select _ _) ofBits_bot

/-- The averages. -/
theorem o2_at (b : Fin 8) (h : Fin 4) (r : Fin 16) (i : Fin 128) (d : Fin 128) :
    val_main_v139 (F := Ideal) x0 x3 (ix5 b h r i d) = gO (rowOf (sl x0) 2 16 (C x3) b h r i) (valOf (C x3) b h r d) := by
  pointwise [val_main_v130, val_main_v131, val_main_v132, val_main_v133, val_main_v134, val_main_v135, val_main_v136, val_main_v137,
      val_main_v138, val_main_v139, val_main_v101, val_main_v98]
  simp only [s2_at]
  exact avg_eq _ _ _ _ ofBits_bot Ideal.ofBits_zero_f32

/-- The maxima, the sums of the weights and their logarithms. -/
theorem m2_at (b : Fin 8) (h : Fin 4) (r : Fin 16) (i : Fin 128) :
    val_main_v131 (F := Ideal) x0 x3 (ix5 b h r i 0) = mx (rowOf (sl x0) 2 16 (C x3) b h r i) := by
  pointwise [val_main_v131, val_main_v130]
  simp only [s2_at]
  exact congrArg (fun e => Finset.univ.fold max e _) ofBits_bot
theorem w2_at (b : Fin 8) (h : Fin 4) (r : Fin 16) (i : Fin 128) :
    val_main_v136 (F := Ideal) x0 x3 (ix5 b h r i 0) = ∑ j, wt (rowOf (sl x0) 2 16 (C x3) b h r i) j := by
  pointwise [val_main_v136, val_main_v135, val_main_v134, val_main_v133, val_main_v132, val_main_v131, val_main_v130]
  simp only [s2_at]
  exact sum_eq _ _ _ ofBits_bot Ideal.ofBits_zero_f32
theorem l2_at (b : Fin 8) (h : Fin 4) (r : Fin 16) (i : Fin 128) :
    val_main_v142 (F := Ideal) x0 x3 (ix4 b h r i) = gL (rowOf (sl x0) 2 16 (C x3) b h r i) := by
  have e : val_main_v142 (F := Ideal) x0 x3 (ix4 b h r i) = val_main_v141 (F := Ideal) x0 x3 (ix5 b h r i 0) := by
    pointwise [val_main_v142]
  rw [e, val_main_v141_apply, val_main_v140_apply, m2_at, w2_at, gL_host]

/-- The averages by position. -/
theorem out2_at (b : Fin 8) (h : Fin 4) (s : Fin 2048) (d : Fin 128) :
    val_main_v144 (F := Ideal) x0 x3 (ix4 b h s d) = gO (rowOf (sl x0) 2 16 (C x3) b h (cls16 s) (pos16 s)) (valOf (C x3) b h (cls16 s) d) := by
  refine Eq.trans ?_ (o2_at x0 x3 b h (cls16 s) (pos16 s) d)
  pointwise [val_main_v144, val_main_v143]
  rfl
/-- The logarithms by position. -/
theorem lse2_at (b : Fin 8) (h : Fin 4) (s : Fin 2048) :
    val_main_v146 (F := Ideal) x0 x3 (ix3 b h s) = gL (rowOf (sl x0) 2 16 (C x3) b h (cls16 s) (pos16 s)) := by
  refine Eq.trans ?_ (l2_at x0 x3 b h (cls16 s) (pos16 s))
  pointwise [val_main_v146, val_main_v145]
  rfl

/-! ## The groups together -/

/-- The logarithms stacked, group by group. -/
theorem lses_0 (b : Fin 8) (h : Fin 4) (s : Fin 2048) : val_main_v150 (F := Ideal) x0 x1 x2 x3 (ix4 0 b h s) = val_main_v48 (F := Ideal) x0 x1 (ix3 b h s) := by
  pointwise [val_main_v150, val_main_v147]
theorem lses_1 (b : Fin 8) (h : Fin 4) (s : Fin 2048) : val_main_v150 (F := Ideal) x0 x1 x2 x3 (ix4 1 b h s) = val_main_v97 (F := Ideal) x0 x2 (ix3 b h s) := by
  pointwise [val_main_v150, val_main_v148]
theorem lses_2 (b : Fin 8) (h : Fin 4) (s : Fin 2048) : val_main_v150 (F := Ideal) x0 x1 x2 x3 (ix4 2 b h s) = val_main_v146 (F := Ideal) x0 x3 (ix3 b h s) := by
  pointwise [val_main_v150, val_main_v149]
theorem lses_at (b : Fin 8) (h : Fin 4) (s : Fin 2048) : ∀ k : Fin 3, val_main_v150 (F := Ideal) x0 x1 x2 x3 (ix4 k b h s)
      = ![gL (rowOf (sl x0) 0 1 (A x1) b h 0 s), gL (rowOf (sl x0) 1 4 (B x2) b h (cls4 s) (pos4 s)), gL (rowOf (sl x0) 2 16 (C x3) b h (cls16 s) (pos16 s))] k
  | 0 => (lses_0 x0 x1 x2 x3 b h s).trans (lse0_at x0 x1 b h s)
  | 1 => (lses_1 x0 x1 x2 x3 b h s).trans (lse1_at x0 x2 b h s)
  | 2 => (lses_2 x0 x1 x2 x3 b h s).trans (lse2_at x0 x3 b h s)

/-- The averages stacked, group by group. -/
theorem outs_0 (b : Fin 8) (h : Fin 4) (s : Fin 2048) (d : Fin 128) :
    val_main_v159 (F := Ideal) x0 x1 x2 x3 (ix5 0 b h s d) = val_main_v46 (F := Ideal) x0 x1 (ix4 b h s d) := by
  pointwise [val_main_v159, val_main_v156]
theorem outs_1 (b : Fin 8) (h : Fin 4) (s : Fin 2048) (d : Fin 128) :
    val_main_v159 (F := Ideal) x0 x1 x2 x3 (ix5 1 b h s d) = val_main_v95 (F := Ideal) x0 x2 (ix4 b h s d) := by
  pointwise [val_main_v159, val_main_v157]
theorem outs_2 (b : Fin 8) (h : Fin 4) (s : Fin 2048) (d : Fin 128) :
    val_main_v159 (F := Ideal) x0 x1 x2 x3 (ix5 2 b h s d) = val_main_v144 (F := Ideal) x0 x3 (ix4 b h s d) := by
  pointwise [val_main_v159, val_main_v158]
theorem outs_at (b : Fin 8) (h : Fin 4) (s : Fin 2048) (d : Fin 128) : ∀ k : Fin 3, val_main_v159 (F := Ideal) x0 x1 x2 x3 (ix5 k b h s d)
      = ![gO (rowOf (sl x0) 0 1 (A x1) b h 0 s) (valOf (A x1) b h 0 d), gO (rowOf (sl x0) 1 4 (B x2) b h (cls4 s) (pos4 s)) (valOf (B x2) b h (cls4 s) d),
          gO (rowOf (sl x0) 2 16 (C x3) b h (cls16 s) (pos16 s)) (valOf (C x3) b h (cls16 s) d)] k
  | 0 => (outs_0 x0 x1 x2 x3 b h s d).trans (out0_at x0 x1 b h s d)
  | 1 => (outs_1 x0 x1 x2 x3 b h s d).trans (out1_at x0 x2 b h s d)
  | 2 => (outs_2 x0 x1 x2 x3 b h s d).trans (out2_at x0 x3 b h s d)

/-- The reference's result at an entry is the attention of its position, head and lane. -/
theorem value_at (b : Fin 8) (s : Fin 2048) (e : Fin 512) :
    val_main_v167 (F := Ideal) x0 x1 x2 x3 (ix3 b s e)
      = att (sl x0) (A x1) (B x2) (C x3) b s ⟨e.val / 128, by omega⟩ ⟨e.val % 128, by omega⟩ := by
  pointwise [val_main_v167, val_main_v166, val_main_v165, val_main_v164, val_main_v163, val_main_v162, val_main_v161, val_main_v160,
      val_main_v155, val_main_v154, val_main_v153, val_main_v152, val_main_v151]
  simp only [lses_at, outs_at]
  exact avg_eq _ _ _ _ ofBits_bot Ideal.ofBits_zero_f32

end Cert.ReferenceIdeal.Att
-- ==== Proof.Tiles.lean ====
/-
  The expert call's precondition, decoded: every tile's expert is one of the eight, and there is at least one live tile.
-/
module

public import proofs.«01_k».proof.Proof.Gen.Pre_tiles_named
public import Idealize.ShloMosaic.Lib.Claim

@[expose] public section

namespace Cert.Tiles

open Cert.Pre_tiles_named Idealize.ShloMosaic

theorem both (p q r : Bool) :
    IntOp.andi (IntOp.andi (BitVec.ofBool p) (BitVec.ofBool q)) (BitVec.ofBool r) = 1#1 → p = true ∧ q = true ∧ r = true := by
  cases p <;> cases q <;> cases r <;> decide

theorem word (v n : BitVec 32)
    (e : IntOp.andi (IntOp.andi (IntOp.cmpi .sge v 0#32) (IntOp.cmpi .slt v 8#32)) (IntOp.cmpi .sge n 1#32) = 1#1) : v.toNat < 8 ∧ 0 < n.toInt := by
  obtain ⟨h1, h2, h3⟩ := both _ _ _ e
  simp only [BitVec.sle_eq_decide, BitVec.slt_eq_decide, decide_eq_true_eq] at h1 h2 h3
  have e0 : (0#32 : BitVec 32).toInt = 0 := by decide
  have e8 : (8#32 : BitVec 32).toInt = 8 := by decide
  have e1 : (1#32 : BitVec 32).toInt = 1 := by decide
  rw [e0] at h1; rw [e8] at h2; rw [e1] at h3
  refine ⟨?_, by omega⟩
  rw [BitVec.toInt_eq_toNat_cond] at h1 h2
  split at h1 <;> omega

variable [Facts] {F : FTy → Type} [FloatOps F]

theorem of_pre (x : FVec F S40960x1024 .f32) (te : IVec S40 32) (n : IVec S1 32) (g u : FVec F S8x1024x3584 .f32) (d : FVec F S8x3584x1024 .f32)
    (h : fn x te n g u d = fun _ => 1#1) : (∀ z, (te z).toNat < 8) ∧ ∀ z, 0 < (n z).toInt := by
  have e (z : S40.Idx) : (te z).toNat < 8 ∧ ∀ y, 0 < (n y).toInt := by
    have e := congrFun h z
    simp only [fn, andi, cmpi, broadcastInDim, constantI] at e
    obtain ⟨h1, h2⟩ := word _ _ e
    refine ⟨h1, fun y => ?_⟩
    rwa [show y = _ from funext fun a => Fin.ext (by
      have h : (y a).val < S1.size a := (y a).isLt
      have e : S1.size a = 1 := by fin_cases a; rfl
      refine (show (y a).val = 0 by omega).trans (Eq.symm (a := _) ?_)
      exact Nat.lt_one_iff.1 (lt_of_lt_of_eq (Fin.isLt _) e))]
  exact ⟨fun z => (e z).1, (e fun a => ⟨0, by fin_cases a; decide⟩).2⟩

end Cert.Tiles
-- ==== Proof.Expert.lean ====
/-
  One expert's feed-forward of one row over the extended reals, as a sum over the hidden width, and the same sum taken a
  chunk of 512 hidden places at a time.
-/
module

public import Idealize.ShloMosaic.Lib.Pointwise
public import Idealize.ShloMosaic.PureOps.Ideal.Laws

@[expose] public section

noncomputable section

namespace Cert.Expert

open Idealize.ShloMosaic

/-- The gated hidden value: `p · σ(p) · q`. -/
def gate (p q : EReal) : EReal := p * Ideal.div 1 (1 + Ideal.exp (-p)) * q

/-- One hidden place's part of an output: the gated product of its two dot products, times its weight. -/
def part {n : ℕ} (x g u : Fin n → EReal) (w : EReal) : EReal := gate (∑ j, x j * g j) (∑ j, x j * u j) * w

/-- The feed-forward: every hidden place's part, summed. -/
def ffn (f : Fin 3584 → EReal) : EReal := ∑ k, f k

/-- Place `q` of chunk `k`. -/
def place (k : Fin 7) (q : Fin 512) : Fin 3584 := ⟨k.val * 512 + q.val, by omega⟩

/-- The hidden places, chunk by chunk. -/
def places : Fin 7 × Fin 512 ≃ Fin 3584 where
  toFun p := place p.1 p.2
  invFun k := (⟨k.val / 512, by omega⟩, ⟨k.val % 512, by omega⟩)
  left_inv p := by
    obtain ⟨k, q⟩ := p
    refine Prod.ext (Fin.ext ?_) (Fin.ext ?_)
    · show (k.val * 512 + q.val) / 512 = k.val; omega
    · show (k.val * 512 + q.val) % 512 = q.val; omega
  right_inv k := Fin.ext (by show k.val / 512 * 512 + k.val % 512 = k.val; omega)

/-- The first `n + 1` chunks' sum. -/
def upTo (f : Fin 3584 → EReal) (n : ℕ) : EReal := ∑ k ∈ Finset.range (n + 1), if h : k < 7 then ∑ q, f (place ⟨k, h⟩ q) else 0

theorem upTo_zero (f : Fin 3584 → EReal) : upTo f 0 = ∑ q, f (place 0 q) := by
  unfold upTo
  rw [Finset.sum_range_one]
  rfl

theorem upTo_succ (f : Fin 3584 → EReal) (n : ℕ) (h : n + 1 < 7) : upTo f (n + 1) = upTo f n + ∑ q, f (place ⟨n + 1, h⟩ q) := by
  unfold upTo
  rw [Finset.sum_range_succ, dif_pos h]

/-- All seven chunks make the feed-forward. -/
theorem upTo_all (f : Fin 3584 → EReal) : upTo f 6 = ffn f := by
  unfold upTo ffn
  rw [Finset.sum_range, ← places.sum_comp, Fintype.sum_prod_type]
  exact Finset.sum_congr rfl fun k _ => dif_pos k.isLt

/-- The rows' weights over the experts, zero but at one, pick that expert's term. -/
theorem pick {n : ℕ} (e : Fin n) (w y : Fin n → EReal) (h1 : w e = 1) (h0 : ∀ k, k ≠ e → w k = 0) : ∑ k, w k * y k = y e := by
  rw [Finset.sum_eq_single e (fun k _ hk => by rw [h0 k hk, zero_mul]) (fun h => absurd (Finset.mem_univ e) h), h1, one_mul]

/-- The word of the float one. -/
theorem one_bits : Ideal.ofBits .f32 0x3F800000#32 = 1 := by
  simp [Ideal.ofBits, Ideal.ieee]
  rw [← EReal.coe_mul]
  norm_num

/-- A row of the experts' call: its tile's expert's feed-forward while the tile is live, zero after. -/
def moe (x : Fin 40960 → Fin 1024 → EReal) (te : Fin 40 → BitVec 32) (n : BitVec 32) (g u : Fin 8 → Fin 1024 → Fin 3584 → EReal)
    (w : Fin 8 → Fin 3584 → Fin 1024 → EReal) (r : Fin 40960) (d : Fin 1024) : EReal :=
  if h : (te ⟨r.val / 1024, by omega⟩).toNat < 8 ∧ (BitVec.ofNat 32 (r.val / 1024)).slt n = true then
    ffn fun k => part (x r) (fun j => g ⟨_, h.1⟩ j k) (fun j => u ⟨_, h.1⟩ j k) (w ⟨_, h.1⟩ k d)
  else 0

end Cert.Expert
-- ==== Proof.Kernel2IdealPoint.lean ====
/-
  The expert kernel's body on one point of its grid, by what the point does: a live tile's first chunk, one of its middle
  chunks, its last chunk, a dead tile before its last point, and at its last point.
-/
module

public import proofs.«01_k».proof.Proof.Gen.Kernel2Ideal.Launch
public import proofs.«01_k».proof.Proof.Gen.Kernel2Ideal.Skeleton
public import Idealize.ShloMosaic.Lib.VecWindow
public import Idealize.ShloMosaic.Lib.Claim

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Equal operands give equal parts of a chunk, -/
theorem congr4 {a a' : Vec F S1024x1024 .bf16} {x1 x1' x2 x2' : Vec F S1x1024x512 .f32} {x3 x3' : Vec F S1x512x1024 .f32}
    (h : a = a') (h1 : x1 = x1') (h2 : x2 = x2') (h3 : x3 = x3') : k0_pay4 a x1 x2 x3 = k0_pay4 a' x1' x2' x3' := by
  subst h h1 h2 h3; rfl

/-- and equal sums. -/
theorem congr5 {a a' : Vec F S1024x1024 .bf16} {x1 x1' x2 x2' : Vec F S1x1024x512 .f32} {x3 x3' : Vec F S1x512x1024 .f32}
    {s s' : Vec F S1024x1024 .f32} (h : a = a') (h1 : x1 = x1') (h2 : x2 = x2') (h3 : x3 = x3') (h4 : s = s') :
    k0_pay5 a x1 x2 x3 s = k0_pay5 a' x1' x2' x3' s' := by
  subst h h1 h2 h3 h4; rfl

section Body

variable (c : Dev nD) (i : grid0.Coords)
  (arg2 : Memref sig .tc .smem S40 .i32) (harg2 : arg2.IsWhole)
  (arg3 : Memref sig .tc .smem S1 .i32) (harg3 : arg3.IsWhole)
  (arg4 : Memref sig .tc .vmem S1024x1024 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x512x1024 .f32) (harg7 : arg7.IsWhole)
  (arg8 : Memref sig .tc .vmem S1024x1024 .f32) (harg8 : arg8.IsWhole)
  (arg9 : Memref sig .tc .vmem S1024x1024 .bf16) (harg9 : arg9.IsWhole)
  (arg10 : Memref sig .tc .vmem S1024x1024 .f32) (harg10 : arg10.IsWhole)

/-- The buffers a point works on, each at its contents: the four input blocks, the count of live tiles, the output block and
    the two scratch buffers. -/
def held (q : PosShare TreeShare) (x0 : Vec F S1024x1024 .f32) (x1 x2 : Vec F S1x1024x512 .f32) (x3 : Vec F S1x512x1024 .f32)
    (n : Vec F S1 .i32) (y : Vec F S1024x1024 .f32) (s0 : Vec F S1024x1024 .bf16) (s1 : Vec F S1024x1024 .f32) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg3 q n ∗ owns (c : Thread nD τ) arg8 fullShare y
    ∗ owns (c : Thread nD τ) arg9 fullShare s0 ∗ owns (c : Thread nD τ) arg10 fullShare s1)

set_option maxHeartbeats 2000000 in
/-- A live tile's first chunk: the scratch takes the cast rows and the chunk's part. -/
theorem body_first (q : PosShare TreeShare) (x0 : Vec F S1024x1024 .f32) (x1 x2 : Vec F S1x1024x512 .f32) (x3 : Vec F S1x512x1024 .f32)
    (n : Vec F S1 .i32) (y : Vec F S1024x1024 .f32) (s0 : Vec F S1024x1024 .bf16) (s1 : Vec F S1024x1024 .f32) (K : PUnit → sProp 𝕄)
    (h1 : ∀ z, k0_cond1 i (n z) = 1#1)
    (h2 : ((Scalar.cmpi .ne (Scalar.extui (Scalar.cmpi .eq (BitVec.ofNat 32 (i 1).val) 0#32)) 0#32 : BitVec 1) = 1#1))
    (h4 : ¬((Scalar.cmpi .ne (Scalar.extui (Scalar.cmpi .sgt (BitVec.ofNat 32 (i 1).val) 0#32)) 0#32 : BitVec 1) = 1#1))
    (h5 : ¬(k0_cond5 i = 1#1))
    (h6 : ∀ z, ¬k0_cond6 i (n z) = 1#1) :
    iprop(held c arg3 arg4 arg5 arg6 arg7 arg8 arg9 arg10 q x0 x1 x2 x3 n y s0 s1
        ∗ (held c arg3 arg4 arg5 arg6 arg7 arg8 arg9 arg10 q x0 x1 x2 x3 n y (k0_pay2 x0) (k0_pay4 (k0_pay2 x0) x1 x2 x3) -∗ K ⟨⟩))
      ⊢ wp frame (wpE (defs₀ (F := F)) Variants.none c none) Set.univ (cc0_expert_ffn i arg2 harg2 arg3 harg3 arg4 harg4 arg5 harg5 arg6 harg6 arg7 harg7 arg8 harg8 arg9 harg9 arg10 harg10) K := by
  unfold held
  simp only [cc0_expert_ffn_eq_skeleton]; unfold cc0_expert_ffn_skel
  simp only [k0_part1_eq_skeleton]
  unfold owns
  iintro ⟨⟨⟨%f4, %hf4, H4⟩, ⟨%f5, %hf5, H5⟩, ⟨%f6, %hf6, H6⟩, ⟨%f7, %hf7, H7⟩, ⟨%f3, %hf3, H3⟩, ⟨%f8, %hf8, H8⟩, ⟨%f9, %hf9, H9⟩, ⟨%f10, %hf10, H10⟩⟩, Hk⟩
  subst hf4 hf5 hf6 hf7 hf3 hf8 hf9 hf10
  sl_exec! (disch := first | (guard_target = k0_cond1 _ _ = _; exact h1 _) | exact h2 | exact h4 | (guard_target = ¬(k0_cond5 _ = _); exact h5) | (guard_target = ¬(k0_cond6 _ _ = _); exact h6 _))
  sl_step
  iapply Hk
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H3]
  · iexists _; isplitr
    swap; · iexact H3
    ipureintro
    rfl
  isplitl [H8]
  · iexists _; isplitr
    swap; · iexact H8
    ipureintro
    rfl
  isplitl [H9]
  · iexists _; isplitr
    swap; · iexact H9
    ipureintro
    refine (View.read_writes_full _ _ _ _ _).trans ?_
    sl_unfold_words
    exact congrArg k0_pay2 (View.readAt_full _ _ _)
  iexists _; isplitr
  swap; · iexact H10
  ipureintro
  refine (View.read_writes_full _ _ _ _ _).trans ?_
  sl_unfold_words
  exact congr4 ((View.readAt_writes_full _ _ _ _ _ _).trans (congrArg k0_pay2 (View.readAt_full _ _ _))) (View.readAt_full _ _ _) (View.readAt_full _ _ _) (View.readAt_full _ _ _)

set_option maxHeartbeats 2000000 in
/-- A live tile's middle chunk: its part is added. -/
theorem body_mid (q : PosShare TreeShare) (x0 : Vec F S1024x1024 .f32) (x1 x2 : Vec F S1x1024x512 .f32) (x3 : Vec F S1x512x1024 .f32)
    (n : Vec F S1 .i32) (y : Vec F S1024x1024 .f32) (s0 : Vec F S1024x1024 .bf16) (s1 : Vec F S1024x1024 .f32) (K : PUnit → sProp 𝕄)
    (h1 : ∀ z, k0_cond1 i (n z) = 1#1)
    (h2 : ¬((Scalar.cmpi .ne (Scalar.extui (Scalar.cmpi .eq (BitVec.ofNat 32 (i 1).val) 0#32)) 0#32 : BitVec 1) = 1#1))
    (h4 : ((Scalar.cmpi .ne (Scalar.extui (Scalar.cmpi .sgt (BitVec.ofNat 32 (i 1).val) 0#32)) 0#32 : BitVec 1) = 1#1))
    (h5 : ¬(k0_cond5 i = 1#1))
    (h6 : ∀ z, ¬k0_cond6 i (n z) = 1#1) :
    iprop(held c arg3 arg4 arg5 arg6 arg7 arg8 arg9 arg10 q x0 x1 x2 x3 n y s0 s1
        ∗ (held c arg3 arg4 arg5 arg6 arg7 arg8 arg9 arg10 q x0 x1 x2 x3 n y s0 (k0_pay5 s0 x1 x2 x3 s1) -∗ K ⟨⟩))
      ⊢ wp frame (wpE (defs₀ (F := F)) Variants.none c none) Set.univ (cc0_expert_ffn i arg2 harg2 arg3 harg3 arg4 harg4 arg5 harg5 arg6 harg6 arg7 harg7 arg8 harg8 arg9 harg9 arg10 harg10) K := by
  unfold held
  simp only [cc0_expert_ffn_eq_skeleton]; unfold cc0_expert_ffn_skel
  simp only [k0_part1_eq_skeleton]
  unfold owns
  iintro ⟨⟨⟨%f4, %hf4, H4⟩, ⟨%f5, %hf5, H5⟩, ⟨%f6, %hf6, H6⟩, ⟨%f7, %hf7, H7⟩, ⟨%f3, %hf3, H3⟩, ⟨%f8, %hf8, H8⟩, ⟨%f9, %hf9, H9⟩, ⟨%f10, %hf10, H10⟩⟩, Hk⟩
  subst hf4 hf5 hf6 hf7 hf3 hf8 hf9 hf10
  sl_exec! (disch := first | (guard_target = k0_cond1 _ _ = _; exact h1 _) | exact h2 | exact h4 | (guard_target = ¬(k0_cond5 _ = _); exact h5) | (guard_target = ¬(k0_cond6 _ _ = _); exact h6 _))
  sl_step
  iapply Hk
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H3]
  · iexists _; isplitr
    swap; · iexact H3
    ipureintro
    rfl
  isplitl [H8]
  · iexists _; isplitr
    swap; · iexact H8
    ipureintro
    rfl
  isplitl [H9]
  · iexists _; isplitr
    swap; · iexact H9
    ipureintro
    rfl
  iexists _; isplitr
  swap; · iexact H10
  ipureintro
  refine (View.read_writes_full _ _ _ _ _).trans ?_
  sl_unfold_words
  exact congr5 (View.readAt_full _ _ _) (View.readAt_full _ _ _) (View.readAt_full _ _ _) (View.readAt_full _ _ _) (View.readAt_full _ _ _)

set_option maxHeartbeats 2000000 in
/-- A live tile's last chunk: its part is added and the sum is the output block. -/
theorem body_last (q : PosShare TreeShare) (x0 : Vec F S1024x1024 .f32) (x1 x2 : Vec F S1x1024x512 .f32) (x3 : Vec F S1x512x1024 .f32)
    (n : Vec F S1 .i32) (y : Vec F S1024x1024 .f32) (s0 : Vec F S1024x1024 .bf16) (s1 : Vec F S1024x1024 .f32) (K : PUnit → sProp 𝕄)
    (h1 : ∀ z, k0_cond1 i (n z) = 1#1)
    (h2 : ¬((Scalar.cmpi .ne (Scalar.extui (Scalar.cmpi .eq (BitVec.ofNat 32 (i 1).val) 0#32)) 0#32 : BitVec 1) = 1#1))
    (h4 : ((Scalar.cmpi .ne (Scalar.extui (Scalar.cmpi .sgt (BitVec.ofNat 32 (i 1).val) 0#32)) 0#32 : BitVec 1) = 1#1))
    (h5 : (k0_cond5 i = 1#1))
    (h6 : ∀ z, ¬k0_cond6 i (n z) = 1#1) :
    iprop(held c arg3 arg4 arg5 arg6 arg7 arg8 arg9 arg10 q x0 x1 x2 x3 n y s0 s1
        ∗ (held c arg3 arg4 arg5 arg6 arg7 arg8 arg9 arg10 q x0 x1 x2 x3 n (k0_pay5 s0 x1 x2 x3 s1) s0 (k0_pay5 s0 x1 x2 x3 s1) -∗ K ⟨⟩))
      ⊢ wp frame (wpE (defs₀ (F := F)) Variants.none c none) Set.univ (cc0_expert_ffn i arg2 harg2 arg3 harg3 arg4 harg4 arg5 harg5 arg6 harg6 arg7 harg7 arg8 harg8 arg9 harg9 arg10 harg10) K := by
  unfold held
  simp only [cc0_expert_ffn_eq_skeleton]; unfold cc0_expert_ffn_skel
  simp only [k0_part1_eq_skeleton]
  unfold owns
  iintro ⟨⟨⟨%f4, %hf4, H4⟩, ⟨%f5, %hf5, H5⟩, ⟨%f6, %hf6, H6⟩, ⟨%f7, %hf7, H7⟩, ⟨%f3, %hf3, H3⟩, ⟨%f8, %hf8, H8⟩, ⟨%f9, %hf9, H9⟩, ⟨%f10, %hf10, H10⟩⟩, Hk⟩
  subst hf4 hf5 hf6 hf7 hf3 hf8 hf9 hf10
  sl_exec! (disch := first | (guard_target = k0_cond1 _ _ = _; exact h1 _) | exact h2 | exact h4 | (guard_target = k0_cond5 _ = _; exact h5) | (guard_target = ¬(k0_cond6 _ _ = _); exact h6 _))
  sl_step
  iapply Hk
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H3]
  · iexists _; isplitr
    swap; · iexact H3
    ipureintro
    rfl
  isplitl [H8]
  · iexists _; isplitr
    swap; · iexact H8
    ipureintro
    refine (View.read_writes_full _ _ _ _ _).trans ?_
    sl_unfold_words
    exact (View.readAt_writes_full _ _ _ _ _ _).trans (congr5 (View.readAt_full _ _ _) (View.readAt_full _ _ _) (View.readAt_full _ _ _) (View.readAt_full _ _ _) (View.readAt_full _ _ _))
  isplitl [H9]
  · iexists _; isplitr
    swap; · iexact H9
    ipureintro
    rfl
  iexists _; isplitr
  swap; · iexact H10
  ipureintro
  refine (View.read_writes_full _ _ _ _ _).trans ?_
  sl_unfold_words
  exact congr5 (View.readAt_full _ _ _) (View.readAt_full _ _ _) (View.readAt_full _ _ _) (View.readAt_full _ _ _) (View.readAt_full _ _ _)

set_option maxHeartbeats 2000000 in
/-- A dead tile before its last point: nothing happens. -/
theorem body_idle (q : PosShare TreeShare) (x0 : Vec F S1024x1024 .f32) (x1 x2 : Vec F S1x1024x512 .f32) (x3 : Vec F S1x512x1024 .f32)
    (n : Vec F S1 .i32) (y : Vec F S1024x1024 .f32) (s0 : Vec F S1024x1024 .bf16) (s1 : Vec F S1024x1024 .f32) (K : PUnit → sProp 𝕄)
    (h1 : ∀ z, ¬k0_cond1 i (n z) = 1#1)
    (h6 : ∀ z, ¬k0_cond6 i (n z) = 1#1) :
    iprop(held c arg3 arg4 arg5 arg6 arg7 arg8 arg9 arg10 q x0 x1 x2 x3 n y s0 s1
        ∗ (held c arg3 arg4 arg5 arg6 arg7 arg8 arg9 arg10 q x0 x1 x2 x3 n y s0 s1 -∗ K ⟨⟩))
      ⊢ wp frame (wpE (defs₀ (F := F)) Variants.none c none) Set.univ (cc0_expert_ffn i arg2 harg2 arg3 harg3 arg4 harg4 arg5 harg5 arg6 harg6 arg7 harg7 arg8 harg8 arg9 harg9 arg10 harg10) K := by
  unfold held
  simp only [cc0_expert_ffn_eq_skeleton]; unfold cc0_expert_ffn_skel
  unfold owns
  iintro ⟨⟨⟨%f4, %hf4, H4⟩, ⟨%f5, %hf5, H5⟩, ⟨%f6, %hf6, H6⟩, ⟨%f7, %hf7, H7⟩, ⟨%f3, %hf3, H3⟩, ⟨%f8, %hf8, H8⟩, ⟨%f9, %hf9, H9⟩, ⟨%f10, %hf10, H10⟩⟩, Hk⟩
  subst hf4 hf5 hf6 hf7 hf3 hf8 hf9 hf10
  sl_exec! (disch := first | (guard_target = ¬(k0_cond1 _ _ = _); exact h1 _) | (guard_target = ¬(k0_cond6 _ _ = _); exact h6 _))
  sl_step
  iapply Hk
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H3]
  · iexists _; isplitr
    swap; · iexact H3
    ipureintro
    rfl
  isplitl [H8]
  · iexists _; isplitr
    swap; · iexact H8
    ipureintro
    rfl
  isplitl [H9]
  · iexists _; isplitr
    swap; · iexact H9
    ipureintro
    rfl
  iexists _; isplitr
  swap; · iexact H10
  ipureintro
  rfl

set_option maxHeartbeats 2000000 in
/-- A dead tile's last point: the output block is zero. -/
theorem body_zero (q : PosShare TreeShare) (x0 : Vec F S1024x1024 .f32) (x1 x2 : Vec F S1x1024x512 .f32) (x3 : Vec F S1x512x1024 .f32)
    (n : Vec F S1 .i32) (y : Vec F S1024x1024 .f32) (s0 : Vec F S1024x1024 .bf16) (s1 : Vec F S1024x1024 .f32) (K : PUnit → sProp 𝕄)
    (h1 : ∀ z, ¬k0_cond1 i (n z) = 1#1)
    (h6 : ∀ z, k0_cond6 i (n z) = 1#1) :
    iprop(held c arg3 arg4 arg5 arg6 arg7 arg8 arg9 arg10 q x0 x1 x2 x3 n y s0 s1
        ∗ (held c arg3 arg4 arg5 arg6 arg7 arg8 arg9 arg10 q x0 x1 x2 x3 n (k0_pay1 (F := F)) s0 s1 -∗ K ⟨⟩))
      ⊢ wp frame (wpE (defs₀ (F := F)) Variants.none c none) Set.univ (cc0_expert_ffn i arg2 harg2 arg3 harg3 arg4 harg4 arg5 harg5 arg6 harg6 arg7 harg7 arg8 harg8 arg9 harg9 arg10 harg10) K := by
  unfold held
  simp only [cc0_expert_ffn_eq_skeleton]; unfold cc0_expert_ffn_skel
  unfold owns
  iintro ⟨⟨⟨%f4, %hf4, H4⟩, ⟨%f5, %hf5, H5⟩, ⟨%f6, %hf6, H6⟩, ⟨%f7, %hf7, H7⟩, ⟨%f3, %hf3, H3⟩, ⟨%f8, %hf8, H8⟩, ⟨%f9, %hf9, H9⟩, ⟨%f10, %hf10, H10⟩⟩, Hk⟩
  subst hf4 hf5 hf6 hf7 hf3 hf8 hf9 hf10
  sl_exec! (disch := first | (guard_target = ¬(k0_cond1 _ _ = _); exact h1 _) | (guard_target = k0_cond6 _ _ = _; exact h6 _))
  sl_step
  iapply Hk
  isplitl [H4]
  · iexists _; isplitr
    swap; · iexact H4
    ipureintro
    rfl
  isplitl [H5]
  · iexists _; isplitr
    swap; · iexact H5
    ipureintro
    rfl
  isplitl [H6]
  · iexists _; isplitr
    swap; · iexact H6
    ipureintro
    rfl
  isplitl [H7]
  · iexists _; isplitr
    swap; · iexact H7
    ipureintro
    rfl
  isplitl [H3]
  · iexists _; isplitr
    swap; · iexact H3
    ipureintro
    rfl
  isplitl [H8]
  · iexists _; isplitr
    swap; · iexact H8
    ipureintro
    refine (View.read_writes_full _ _ _ _ _).trans ?_
    sl_unfold_words
    rfl
  isplitl [H9]
  · iexists _; isplitr
    swap; · iexact H9
    ipureintro
    rfl
  iexists _; isplitr
  swap; · iexact H10
  ipureintro
  rfl

end Body

end Cert.Kernel2Ideal.Exp

end
-- ==== Proof.Kernel2IdealRun.lean ====
/-
  The expert kernel's run at any admissible tables: each tile's scratch after each of its chunks, the pipeline's proof data,
  the body obligation, the launch and the frame.
-/
module

public import proofs.«01_k».proof.Proof.Kernel2IdealPoint
public import Idealize.ShloMosaic.Lib.Pipeline.TableIdle
public import Idealize.ShloMosaic.Lib.Pipeline.FrameBody

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The control's decisions, as numbers -/

theorem ne_ext (b : Bool) : (Scalar.cmpi .ne (Scalar.extui (BitVec.ofBool b) : BitVec 32) 0#32 : BitVec 1) = 1#1 ↔ b = true := by
  cases b <;> decide
theorem ne_and (p q : Bool) :
    (Scalar.cmpi .ne (Scalar.extui (Scalar.andi (BitVec.ofBool p) (BitVec.ofBool q)) : BitVec 32) 0#32 : BitVec 1) = 1#1 ↔ p = true ∧ q = true := by
  cases p <;> cases q <;> decide

theorem small_eq (k j : ℕ) (hk : k < 7) (hj : j < 7) : (BitVec.ofNat 32 k == BitVec.ofNat 32 j) = true ↔ k = j := by
  rw [beq_iff_eq, ← BitVec.toNat_inj, BitVec.toNat_ofNat, BitVec.toNat_ofNat]; omega
theorem small_pos : ∀ k : Fin 7, (BitVec.slt 0#32 (BitVec.ofNat 32 k.val)) = true ↔ k.val ≠ 0 := by decide
theorem sle_not (a w : BitVec 32) : w.sle a = true ↔ ¬a.slt w = true := by
  simp only [BitVec.sle_eq_decide, BitVec.slt_eq_decide, decide_eq_true_eq, not_lt]

section Cond
variable (i : grid0.Coords) (w : BitVec 32)
theorem cond1_iff : k0_cond1 i w = 1#1 ↔ (BitVec.ofNat 32 (i 0).val).slt w = true := ne_ext _
theorem eq0_iff : (Scalar.cmpi .ne (Scalar.extui (Scalar.cmpi .eq (BitVec.ofNat 32 (i 1).val) 0#32)) 0#32 : BitVec 1) = 1#1 ↔ (i 1).val = 0 :=
  (ne_ext _).trans (small_eq _ 0 (i 1).isLt (by omega))
theorem pos_iff : (Scalar.cmpi .ne (Scalar.extui (Scalar.cmpi .sgt (BitVec.ofNat 32 (i 1).val) 0#32)) 0#32 : BitVec 1) = 1#1 ↔ (i 1).val ≠ 0 :=
  (ne_ext _).trans (small_pos (i 1))
theorem cond5_iff : k0_cond5 i = 1#1 ↔ (i 1).val = 6 := (ne_ext _).trans (small_eq _ 6 (i 1).isLt (by omega))
theorem cond6_iff : k0_cond6 i w = 1#1 ↔ ¬(BitVec.ofNat 32 (i 0).val).slt w = true ∧ (i 1).val = 6 :=
  (ne_and _ _).trans (and_congr (sle_not _ _) (small_eq _ 6 (i 1).isLt (by omega)))
end Cond

theorem crd0 (t : Fin grid0.N) : (grid0.coords t 0).val = t.val / 7 := by
  have h := Pipeline.Grid.coords_val t (0 : Fin 2) (S := 7) (B := 40) (by decide) rfl
  have := lt_of_lt_of_eq t.isLt N_0
  rw [h]; omega
theorem crd1 (t : Fin grid0.N) : (grid0.coords t 1).val = t.val % 7 := by
  have h := Pipeline.Grid.coords_val t (1 : Fin 2) (S := 1) (B := 7) (by decide) rfl
  rw [h]; omega

theorem one_idx (z z' : S1.Idx) : z = z' := funext fun a => Fin.ext (by
  have h : (z a).val < S1.size a := (z a).isLt
  have h' : (z' a).val < S1.size a := (z' a).isLt
  have e : S1.size a = 1 := by fin_cases a; rfl
  omega)

/-- The one index of a table of one entry. -/
def zero1 : S1.Idx := fun a => ⟨0, by fin_cases a; decide⟩

/-! ## The tables and the blocks -/

variable (a : (pcfg0 (F := F)).Adm) (m : (ℓ : Loc nD τ sig) → Buf (Elt F) ℓ) (ρ : Dev nD → PrngReg)

abbrev cfgA : Pipeline.Cfg sig Λ₀ := cfg0 (F := F) a
abbrev pcs : Fin 1 → Pipeline.Cfg sig Λ₀ := Pipeline.pin (pcfgs (F := F)) fun _ => a

theorem N_A : (cfgA a).N = 280 := N_0

/-- The count of live tiles, as the table holds it, and as a word. -/
def tab1 : Vec F S1 .i32 := a.1 1
def cnt : BitVec 32 := tab1 a zero1

theorem tab1_at (z : S1.Idx) : tab1 a z = cnt a := congrArg (tab1 a) (one_idx _ _)

/-- Tile `i` is live. -/
def live (i : ℕ) : Prop := (BitVec.ofNat 32 i).slt (cnt a) = true

abbrev crd (t : Fin (cfgA a).N) : (cfgA a).grid.Coords := (cfgA a).grid.coords t

theorem crdA0 (t : Fin (cfgA a).N) : ((crd a t : grid0.Coords) 0).val = t.val / 7 := crd0 t
theorem crdA1 (t : Fin (cfgA a).N) : ((crd a t : grid0.Coords) 1).val = t.val % 7 := crd1 t

theorem cond1_at (t : Fin (cfgA a).N) (z : S1.Idx) : k0_cond1 (crd a t) (tab1 a z) = 1#1 ↔ live a (t.val / 7) := by
  rw [tab1_at, live, ← crdA0]; exact cond1_iff _ _
theorem cond5_at (t : Fin (cfgA a).N) : k0_cond5 (crd a t) = 1#1 ↔ t.val % 7 = 6 := by
  rw [← crdA1 a]; exact cond5_iff _
theorem cond6_at (t : Fin (cfgA a).N) (z : S1.Idx) : k0_cond6 (crd a t) (tab1 a z) = 1#1 ↔ ¬live a (t.val / 7) ∧ t.val % 7 = 6 := by
  rw [tab1_at, live, ← crdA0, ← crdA1 a]; exact cond6_iff _ _

abbrev ms0 (t : Fin (cfgA a).N) : Memref sig .tc .vmem S1024x1024 .f32 := spec0_0.stage ((cfgA a).slots t (0 : Fin 5))
abbrev ms1 (t : Fin (cfgA a).N) : Memref sig .tc .vmem S1x1024x512 .f32 := spec0_1.stage ((cfgA a).slots t (1 : Fin 5))
abbrev ms2 (t : Fin (cfgA a).N) : Memref sig .tc .vmem S1x1024x512 .f32 := spec0_2.stage ((cfgA a).slots t (2 : Fin 5))
abbrev ms3 (t : Fin (cfgA a).N) : Memref sig .tc .vmem S1x512x1024 .f32 := spec0_3.stage ((cfgA a).slots t (3 : Fin 5))
abbrev ms4 (t : Fin (cfgA a).N) : Memref sig .tc .vmem S1024x1024 .f32 := spec0_4.stage ((cfgA a).slots t (4 : Fin 5))

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The four input blocks of a point, at their shapes. -/
def bx (c : Dev nD) (t : Fin (cfgA a).N) : Vec F S1024x1024 .f32 := iblk a m ρ c (0 : Fin 5) t
def bg (c : Dev nD) (t : Fin (cfgA a).N) : Vec F S1x1024x512 .f32 := iblk a m ρ c (1 : Fin 5) t
def bu (c : Dev nD) (t : Fin (cfgA a).N) : Vec F S1x1024x512 .f32 := iblk a m ρ c (2 : Fin 5) t
def bd (c : Dev nD) (t : Fin (cfgA a).N) : Vec F S1x512x1024 .f32 := iblk a m ρ c (3 : Fin 5) t

/-- The first point of `t`'s tile, -/
def first (t : Fin (cfgA a).N) : Fin (cfgA a).N := ⟨7 * (t.val / 7), by have := t.isLt; omega⟩

/-- its rows as the scratch keeps them, -/
def rows (c : Dev nD) (t : Fin (cfgA a).N) : Vec F S1024x1024 .bf16 := k0_pay2 (bx a m ρ c (first a t))

/-- and the tile's sum over its chunks up to point `n`. -/
def sofar (c : Dev nD) : (n : ℕ) → n < (cfgA a).N → Vec F S1024x1024 .f32
  | 0, h => k0_pay4 (rows a m ρ c ⟨0, h⟩) (bg a m ρ c ⟨0, h⟩) (bu a m ρ c ⟨0, h⟩) (bd a m ρ c ⟨0, h⟩)
  | n + 1, h =>
    if (n + 1) % 7 = 0 then k0_pay4 (rows a m ρ c ⟨n + 1, h⟩) (bg a m ρ c ⟨n + 1, h⟩) (bu a m ρ c ⟨n + 1, h⟩) (bd a m ρ c ⟨n + 1, h⟩)
    else k0_pay5 (rows a m ρ c ⟨n + 1, h⟩) (bg a m ρ c ⟨n + 1, h⟩) (bu a m ρ c ⟨n + 1, h⟩) (bd a m ρ c ⟨n + 1, h⟩) (sofar c n (by omega))

theorem sofar_first (c : Dev nD) (t : Fin (cfgA a).N) (h : t.val % 7 = 0) :
    sofar a m ρ c t.val t.isLt = k0_pay4 (k0_pay2 (bx a m ρ c t)) (bg a m ρ c t) (bu a m ρ c t) (bd a m ρ c t) := by
  have e : first a t = t := Fin.ext (by show 7 * (t.val / 7) = t.val; omega)
  have hr : k0_pay2 (bx a m ρ c t) = rows a m ρ c t := by unfold rows; rw [e]
  rw [hr]
  obtain ⟨n, hn⟩ := t
  cases n with
  | zero => rfl
  | succ n => unfold sofar; rw [if_pos h]

theorem sofar_next (c : Dev nD) (t t' : Fin (cfgA a).N) (e : t.val = t'.val + 1) (h : ¬t.val % 7 = 0) :
    sofar a m ρ c t.val t.isLt = k0_pay5 (rows a m ρ c t') (bg a m ρ c t) (bu a m ρ c t) (bd a m ρ c t) (sofar a m ρ c t'.val t'.isLt) := by
  have hr : rows a m ρ c t' = rows a m ρ c t := by
    unfold rows; exact congrArg (fun t => k0_pay2 (bx a m ρ c t)) (Fin.ext (by show 7 * (t'.val / 7) = 7 * (t.val / 7); omega))
  rw [hr]
  obtain ⟨n, hn⟩ := t
  obtain ⟨n', hn'⟩ := t'
  obtain rfl : n = n' + 1 := e
  rw [sofar, if_neg h]

theorem rows_next (c : Dev nD) (t t' : Fin (cfgA a).N) (e : t.val / 7 = t'.val / 7) : rows a m ρ c t' = rows a m ρ c t := by
  unfold rows; exact congrArg (fun t => k0_pay2 (bx a m ρ c t)) (Fin.ext (by show 7 * (t'.val / 7) = 7 * (t.val / 7); omega))

/-! ## The proof data -/

open Classical in
/-- What a tile's last point writes back: the sum of a live tile, zero for a dead one. -/
def outAt (c : Dev nD) (t : Fin (cfgA a).N) : Vec F S1024x1024 .f32 :=
  if live a (t.val / 7) then sofar a m ρ c t.val t.isLt else k0_pay1

/-- Within a live tile the scratch holds the tile's rows and its sum so far. -/
def good (c : Dev nD) (n : ℕ) (s0 : Vec F S1024x1024 .bf16) (s1 : Vec F S1024x1024 .f32) : Prop :=
  ∀ t : Fin (cfgA a).N, n = t.val + 1 → n % 7 ≠ 0 → live a (t.val / 7) → s0 = rows a m ρ c t ∧ s1 = sofar a m ρ c t.val t.isLt

/-- The invariant before a point: the tables and the scratch. -/
def Phi (c : Dev nD) (t : Fin ((cfgA a).N + 1)) : sProp 𝕄 :=
  iprop((((c : Thread nD τ).loc main_arg1) ↦{fullShare.right} (a.1 0)) ∗ owns (c : Thread nD τ) (Memref.whole main_arg2) fullShare.right (tab1 a)
    ∗ ∃ s0 s1, ⌜good a m ρ c t.val s0 s1⌝ ∗ owns (c : Thread nD τ) (Memref.whole cc0_scratch0) fullShare s0 ∗ owns (c : Thread nD τ) (Memref.whole cc0_scratch1) fullShare s1)

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outAt a m ρ c t
  Φ t := Phi a m ρ c t
  q _ := fullShare
  owed _ := 0

section Data
variable (c : Dev nD) (t : Fin (cfgA a).N)
theorem after0 : (dats a m ρ 0 c).after (0 : Fin 5) t = bx a m ρ c t := rfl
theorem after1 : (dats a m ρ 0 c).after (1 : Fin 5) t = bg a m ρ c t := rfl
theorem after2 : (dats a m ρ 0 c).after (2 : Fin 5) t = bu a m ρ c t := rfl
theorem after3 : (dats a m ρ 0 c).after (3 : Fin 5) t = bd a m ρ c t := rfl
theorem after4 : (dats a m ρ 0 c).after (4 : Fin 5) t = outAt a m ρ c t := rfl
theorem before0 (d) : (dats a m ρ 0 c).before (0 : Fin 5) t d = bx a m ρ c t :=
  ((dats a m ρ 0 c).before_in_eq_fetched (0 : Fin 5) rfl (fun _ => rfl) (fun _ _ _ => rfl)
    (fun t => by rw [after0]; unfold Dat.blockOf bx iblk; rfl) t d).trans (by unfold Dat.fetched Dat.blockOf bx iblk; rfl)
theorem before1 (d) : (dats a m ρ 0 c).before (1 : Fin 5) t d = bg a m ρ c t :=
  ((dats a m ρ 0 c).before_in_eq_fetched (1 : Fin 5) rfl (fun _ => rfl) (fun _ _ _ => rfl)
    (fun t => by rw [after1]; unfold Dat.blockOf bg iblk; rfl) t d).trans (by unfold Dat.fetched Dat.blockOf bg iblk; rfl)
theorem before2 (d) : (dats a m ρ 0 c).before (2 : Fin 5) t d = bu a m ρ c t :=
  ((dats a m ρ 0 c).before_in_eq_fetched (2 : Fin 5) rfl (fun _ => rfl) (fun _ _ _ => rfl)
    (fun t => by rw [after2]; unfold Dat.blockOf bu iblk; rfl) t d).trans (by unfold Dat.fetched Dat.blockOf bu iblk; rfl)
theorem before3 (d) : (dats a m ρ 0 c).before (3 : Fin 5) t d = bd a m ρ c t :=
  ((dats a m ρ 0 c).before_in_eq_fetched (3 : Fin 5) rfl (fun _ => rfl) (fun _ _ _ => rfl)
    (fun t => by rw [after3]; unfold Dat.blockOf bd iblk; rfl) t d).trans (by unfold Dat.fetched Dat.blockOf bd iblk; rfl)
end Data

/-! ## The output window's schedule -/

theorem tf4 (i : grid0.Coords) : cc0_transform_4 i = ![(i 0).val, 0] := by
  have h : (i 0).val < 40 := (i 0).isLt
  unfold cc0_transform_4
  simp only [BitVec.toNat_ofNat]
  funext b; fin_cases b
  · show (i 0).val % 2 ^ 32 = _; rw [Nat.mod_eq_of_lt (by omega)]; rfl
  · rfl

theorem flush4 (t : Fin (cfgA a).N) : ((cfgA a).win (4 : Fin 5)).flush t = decide (t.val % 7 = 6) := by
  have hN := N_A a
  have ht := t.isLt
  have hix : ∀ t : Fin (cfgA a).N, ((cfgA a).win (4 : Fin 5)).index t = ![t.val / 7, 0] := fun t =>
    (tf4 _).trans (by rw [crdA0 a])
  show (true && (decide (t.val + 1 = (cfgA a).N) || decide (∃ h : t.val + 1 < (cfgA a).N, ((cfgA a).win (4 : Fin 5)).index ⟨t.val + 1, h⟩ ≠ ((cfgA a).win (4 : Fin 5)).index t))) = _
  rw [Bool.true_and, Bool.eq_iff_iff]
  simp only [Bool.or_eq_true, decide_eq_true_eq, hix]
  constructor
  · rintro (h | ⟨h, h'⟩)
    · omega
    · by_contra hne
      exact h' (by rw [show (t.val + 1) / 7 = t.val / 7 by omega])
  · intro h
    by_cases hl : t.val + 1 = (cfgA a).N
    · exact .inl hl
    · refine .inr ⟨by omega, fun e => ?_⟩
      have := congrFun e 0
      have e' : (t.val + 1) / 7 = t.val / 7 := this
      omega

theorem idle4 (t : Fin (cfgA a).N) : (cfgA a).idle (4 : Fin 5) ((cfgA a).grid.coords t) = !decide (t.val % 7 = 6) := by
  have hd : (a.1.atD 1 ![0] : BitVec 32) = cnt a := by
    unfold cnt tab1 Pipeline.Prefetch.Contents.atD
    exact (dif_pos (show ∀ a : Fin 1, (![0] : Fin 1 → ℕ) a + 1 ≤ S1.size a by decide)).trans (congrArg (a.1 1) (one_idx _ _))
  show (!(k0_cond1 (crd a t) (a.1.atD 1 ![0]) == 1#1 && k0_cond5 (crd a t) == 1#1) && !(k0_cond6 (crd a t) (a.1.atD 1 ![0]) == 1#1)) = _
  have h1 := cond1_at a t zero1
  have h6 := cond6_at a t zero1
  have h5 := cond5_at a t
  rw [tab1_at] at h1 h6
  rw [hd]
  rw [Bool.eq_iff_iff]
  simp only [Bool.and_eq_true, Bool.not_eq_true', Bool.and_eq_false_iff, beq_eq_false_iff_ne, decide_eq_false_iff_not, ne_eq, h1, h5, h6]
  by_cases hl : live a (t.val / 7) <;> simp [hl]

/-! ## The body obligation -/

/-- What a point leaves in the output's buffer: its block at the tile's last point, before it what was there. -/
def leaves4 (c : Dev nD) (t : Fin (cfgA a).N) : sProp 𝕄 :=
  if t.val % 7 = 6 then owns (c : Thread nD τ) (ms4 a t) fullShare (outAt a m ρ c t)
  else iprop(∃ d, owns (c : Thread nD τ) (ms4 a t) fullShare ((dats a m ρ 0 c).before (4 : Fin 5) t d))

theorem leaves4_eq (c : Dev nD) (t : Fin (cfgA a).N) : leaves4 a m ρ c t =
    (match (cfgA a).idle (4 : Fin 5) ((cfgA a).grid.coords t) with
      | true => match ((cfgA a).win (4 : Fin 5)).flush t with
        | false => iprop(∃ d, owns (c : Thread nD τ) (ms4 a t) fullShare ((dats a m ρ 0 c).before (4 : Fin 5) t d))
        | true => owns (c : Thread nD τ) (ms4 a t) fullShare (outAt a m ρ c t)
      | false => owns (c : Thread nD τ) (ms4 a t) fullShare (outAt a m ρ c t)) := by
  rw [idle4, flush4]
  unfold leaves4
  by_cases h : t.val % 7 = 6
  · rw [if_pos h, decide_eq_true h]; rfl
  · rw [if_neg h, decide_eq_false h]; rfl

/-- The body at a point, as the pipeline calls it. -/
abbrev bodyAt (t : Fin (cfgA a).N) : Prog (TpuEff nD τ sig (Elt F) Λ₀ .tc) PUnit :=
  cc0_expert_ffn (crd a t) (Memref.whole main_arg1) (Memref.isWhole_whole _) (Memref.whole main_arg2) (Memref.isWhole_whole _)
    (ms0 a t) (hstage0_0 (((cfgA a).slots t (0 : Fin 5)).cast nbuf0_0)) (ms1 a t) (hstage0_1 (((cfgA a).slots t (1 : Fin 5)).cast nbuf0_1))
    (ms2 a t) (hstage0_2 (((cfgA a).slots t (2 : Fin 5)).cast nbuf0_2)) (ms3 a t) (hstage0_3 (((cfgA a).slots t (3 : Fin 5)).cast nbuf0_3))
    (ms4 a t) (hstage0_4 (((cfgA a).slots t (4 : Fin 5)).cast nbuf0_4)) (Memref.whole cc0_scratch0) (Memref.isWhole_whole _) (Memref.whole cc0_scratch1) (Memref.isWhole_whole _)

/-- The buffers of a point at its blocks. -/
abbrev heldAt (c : Dev nD) (t : Fin (cfgA a).N) (y : Vec F S1024x1024 .f32) (s0 : Vec F S1024x1024 .bf16) (s1 : Vec F S1024x1024 .f32) : sProp 𝕄 :=
  held c (Memref.whole main_arg2) (ms0 a t) (ms1 a t) (ms2 a t) (ms3 a t) (ms4 a t) (Memref.whole cc0_scratch0) (Memref.whole cc0_scratch1)
    fullShare.right (bx a m ρ c t) (bg a m ρ c t) (bu a m ρ c t) (bd a m ρ c t) (tab1 a) y s0 s1

/-- From a scratch as the invariant has it the body leaves one as the invariant has it next, and the output's buffer as stated. -/
theorem point (c : Dev nD) (t : Fin (cfgA a).N) (y : Vec F S1024x1024 .f32) (s0 : Vec F S1024x1024 .bf16) (s1 : Vec F S1024x1024 .f32)
    (hg : good a m ρ c t.val s0 s1) :
    ∃ y' s0' s1', (∀ K : PUnit → sProp 𝕄, iprop(heldAt a m ρ c t y s0 s1 ∗ (heldAt a m ρ c t y' s0' s1' -∗ K ⟨⟩))
        ⊢ wp frame (wpE (defs₀ (F := F)) Variants.none c none) Set.univ (bodyAt a t) K)
      ∧ good a m ρ c (t.val + 1) s0' s1' ∧ (t.val % 7 = 6 → y' = outAt a m ρ c t) ∧ (t.val % 7 ≠ 6 → y' = y) := by
  have c1 := cond1_at a t
  have c2 : _ ↔ t.val % 7 = 0 := (eq0_iff (crd a t)).trans (by rw [crdA1 a])
  have c4 : _ ↔ t.val % 7 ≠ 0 := (pos_iff (crd a t)).trans (by rw [crdA1 a])
  have c5 := cond5_at a t
  have c6 := cond6_at a t
  by_cases hl : live a (t.val / 7)
  · have h1 := fun z => (c1 z).2 hl
    have h6 := fun z (h : k0_cond6 (crd a t) (tab1 a z) = 1#1) => ((c6 z).1 h).1 hl
    have hout : outAt a m ρ c t = sofar a m ρ c t.val t.isLt := if_pos hl
    have now : ∀ (s0' : Vec F S1024x1024 .bf16) (s1' : Vec F S1024x1024 .f32), s0' = rows a m ρ c t → s1' = sofar a m ρ c t.val t.isLt →
        good a m ρ c (t.val + 1) s0' s1' := fun s0' s1' e0 e1 t' he _ _ => by
      obtain rfl : t = t' := Fin.ext (by omega)
      exact ⟨e0, e1⟩
    by_cases h0 : t.val % 7 = 0
    · have e0 : k0_pay2 (bx a m ρ c t) = rows a m ρ c t := by
        unfold rows; rw [show first a t = t from Fin.ext (by show 7 * (t.val / 7) = t.val; omega)]
      exact ⟨y, _, _, fun K => body_first c (crd a t) _ _ _ _ _ _ _ _ _ _ _ _ _ _ _ _ _ _ fullShare.right _ _ _ _ _ y s0 s1 K h1 (c2.2 h0)
        (fun h => c4.1 h h0) (fun h => by have := c5.1 h; omega) h6,
        now _ _ e0 (sofar_first a m ρ c t h0).symm, fun h => by omega, fun _ => rfl⟩
    · have hp : t.val - 1 < (cfgA a).N := by have := t.isLt; omega
      obtain ⟨e0, e1⟩ := hg ⟨t.val - 1, hp⟩ (by show t.val = t.val - 1 + 1; omega) h0
        (by show live a ((t.val - 1) / 7); rw [show (t.val - 1) / 7 = t.val / 7 by omega]; exact hl)
      have er : rows a m ρ c ⟨t.val - 1, hp⟩ = rows a m ρ c t := rows_next a m ρ c t _ (by show t.val / 7 = (t.val - 1) / 7; omega)
      have es : k0_pay5 s0 (bg a m ρ c t) (bu a m ρ c t) (bd a m ρ c t) s1 = sofar a m ρ c t.val t.isLt := by
        rw [e0, e1]; exact (sofar_next a m ρ c t ⟨t.val - 1, hp⟩ (by show t.val = t.val - 1 + 1; omega) h0).symm
      by_cases h6' : t.val % 7 = 6
      · exact ⟨_, _, _, fun K => body_last c (crd a t) _ _ _ _ _ _ _ _ _ _ _ _ _ _ _ _ _ _ fullShare.right _ _ _ _ _ y s0 s1 K h1 (fun h => h0 (c2.1 h))
          (c4.2 h0) (c5.2 h6') h6, now _ _ (e0.trans er) es, fun _ => es.trans hout.symm, fun h => absurd h6' h⟩
      · exact ⟨_, _, _, fun K => body_mid c (crd a t) _ _ _ _ _ _ _ _ _ _ _ _ _ _ _ _ _ _ fullShare.right _ _ _ _ _ y s0 s1 K h1 (fun h => h0 (c2.1 h))
          (c4.2 h0) (fun h => h6' (c5.1 h)) h6, now _ _ (e0.trans er) es, fun h => absurd h h6', fun _ => rfl⟩
  · have h1 := fun z h => hl ((c1 z).1 h)
    have now : good a m ρ c (t.val + 1) s0 s1 := fun t' he _ hl' => by
      obtain rfl : t = t' := Fin.ext (by omega)
      exact absurd hl' hl
    by_cases h6' : t.val % 7 = 6
    · exact ⟨_, _, _, fun K => body_zero c (crd a t) _ _ _ _ _ _ _ _ _ _ _ _ _ _ _ _ _ _ fullShare.right _ _ _ _ _ y s0 s1 K h1
        (fun z => (c6 z).2 ⟨hl, h6'⟩), now, fun _ => (if_neg hl : outAt a m ρ c t = _).symm, fun h => absurd h6' h⟩
    · exact ⟨_, _, _, fun K => body_idle c (crd a t) _ _ _ _ _ _ _ _ _ _ _ _ _ _ _ _ _ _ fullShare.right _ _ _ _ _ y s0 s1 K h1
        (fun z h => h6' ((c6 z).1 h).2), now, fun h => absurd h h6', fun _ => rfl⟩

set_option maxHeartbeats 1000000 in
theorem sound_body (c : Dev nD) (t : Fin (cfgA a).N) :
    iprop(Phi a m ρ c t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ (bodyAt a t) fun _ =>
        iprop(Phi a m ρ c t.succ ∗ (dats a m ρ 0 c).owesAt () t.succ
          ∗ owns (c : Thread nD τ) (ms0 a t) fullShare (bx a m ρ c t) ∗ owns (c : Thread nD τ) (ms1 a t) fullShare (bg a m ρ c t)
          ∗ owns (c : Thread nD τ) (ms2 a t) fullShare (bu a m ρ c t) ∗ owns (c : Thread nD τ) (ms3 a t) fullShare (bd a m ρ c t)
          ∗ leaves4 a m ρ c t) := by
  rw [show (dats a m ρ 0 c).owesAt () t.succ = (dats a m ρ 0 c).owesAt () t.castSucc from rfl]
  simp only [before0, before1, before2, before3]
  unfold Phi
  simp only [Fin.val_castSucc, Fin.val_succ]
  iintro ⟨⟨HT0, HT1, %s0, %s1, %hg, HS0, HS1⟩, Ho, ⟨%d0, H0⟩, ⟨%d1, H1⟩, ⟨%d2, H2⟩, ⟨%d3, H3⟩, ⟨%d4, H4⟩⟩
  obtain ⟨y', s0', s1', hrun, hg', hy6, hyn⟩ := point a m ρ c t ((dats a m ρ 0 c).before (4 : Fin 5) t d4) s0 s1 hg
  iapply hrun
  unfold heldAt held
  isplitl [H0 H1 H2 H3 HT1 H4 HS0 HS1]
  · isplitl [H0]; · iexact H0
    isplitl [H1]; · iexact H1
    isplitl [H2]; · iexact H2
    isplitl [H3]; · iexact H3
    isplitl [HT1]; · iexact HT1
    isplitl [H4]; · iexact H4
    isplitl [HS0]; · iexact HS0
    iexact HS1
  iintro ⟨H0, H1, H2, H3, HT1, H4, HS0, HS1⟩
  isplitl [HT0 HT1 HS0 HS1]
  · isplitl [HT0]; · iexact HT0
    isplitl [HT1]; · iexact HT1
    iexists s0'; iexists s1'
    isplitr; · ipureintro; exact hg'
    isplitl [HS0]; · iexact HS0
    iexact HS1
  isplitl [Ho]; · iexact Ho
  isplitl [H0]; · iexact H0
  isplitl [H1]; · iexact H1
  isplitl [H2]; · iexact H2
  isplitl [H3]; · iexact H3
  unfold leaves4
  by_cases h : t.val % 7 = 6
  · rw [if_pos h, ← hy6 h]; iexact H4
  · rw [if_neg h, hyn h]; iexists d4; iexact H4

theorem defs₀_row (t : Fin (cfgA a).N) : defs₀ (F := F) .tc (cfgA a).body ((cfgA a).bodyArgs t ((cfgA a).slots t)) = bodyAt a t := by
  unfold defs₀; rw [Defs.onTc_tc]

theorem body_obligation (c : Dev nD) : BodyObligation (dats (F := F) a m ρ 0 c) (defs₀ (F := F)) Variants.none () Set.univ := fun t => by
  rw [bigSep_W0, bigSep_W0]
  refine triple_restated (sound_body a m ρ c t) rfl .rfl fun _ => ?_
  rw [leaves4_eq]
  exact .rfl

/-! ## The launch -/

/-- A table at its contents is its memref owned at them. -/
theorem owns_table (c : Dev nD) (q : PosShare TreeShare) :
    ((((c : Thread nD τ).loc main_arg2) ↦{q} (a.1 1)) : sProp 𝕄) ⊢ owns (c : Thread nD τ) (Memref.whole main_arg2) q (tab1 a) := by
  iintro H
  unfold owns
  iexists (a.1 1)
  isplitr; · ipureintro; rfl
  rw [show (Memref.whole main_arg2 : Memref sig .tc _ _ _).view.set = Finset.univ from View.set_whole main_arg2]
  iexact H

/-- A whole buffer at some contents is its memref owned at something, -/
theorem owns_of_whole (c : Dev nD) (b : Ref sig .tc) :
    iprop(∃ f : Buf (Elt F) ((c : Thread nD τ).loc b), ((c : Thread nD τ).loc b) ↦{fullShare} f)
      ⊢ (iprop(∃ d, owns (c : Thread nD τ) (Memref.whole b) fullShare d) : sProp 𝕄) := by
  iintro ⟨%f, H⟩
  unfold owns
  iexists f; iexists f
  isplitr; · ipureintro; rfl
  rw [show (Memref.whole b : Memref sig .tc _ _ _).view.set = Finset.univ from View.set_whole b]
  iexact H

/-- and back. -/
theorem whole_of_owns (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  unfold owns
  iintro ⟨%d, %f, -, H⟩
  iexists f
  rw [show (Memref.whole b : Memref sig .tc _ _ _).view.set = Finset.univ from View.set_whole b]
  iexact H

theorem owns_whole_ex (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) :=
  Entails.antisymm (owns_of_whole c b) (whole_of_owns c b)

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- The invariant at the first point, from the tables and the scratch, -/
theorem phi_first (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  simp only [owns_whole_ex]
  iintro ⟨-, ⟨HT0, HT1⟩, ⟨%s0, HS0⟩, ⟨%s1, HS1⟩⟩
  isplitl [HT0]; · iexact HT0
  isplitl [HT1]; · iapply owns_table; iexact HT1
  iexists s0; iexists s1
  isplitr; · ipureintro; intro t h; exact absurd h (by show ¬(0 = t.val + 1); omega)
  isplitl [HS0]; · iexact HS0
  iexact HS1

/-- and at the last point the scratch handed back. -/
theorem phi_last (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  simp only [owns_whole_ex]
  iintro ⟨-, -, %s0, %s1, -, HS0, HS1⟩
  isplitr; · iempintro
  isplitl [HS0]; · iexists s0; iexact HS0
  iexists s1; iexact HS1

theorem share_eq (c : Dev nD) (w : Fin (cfgA a).W) : (dats a m ρ 0 c).share w = fullShare := by unfold Dat.share; split <;> rfl

/-- Every array at what the proof data computes, every table as the launch found it. -/
def Ends (r : PUnit × MemSt nD τ sig (Elt F)) : Prop :=
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run_main (hp : ∀ (c : Dev nD) j, m ((c : Thread nD τ).loc (pre0.ref j)) = a.1 j) :
    θ_run (defs (F := F)) (onTc (τ := τ) (main (F := F))) (s₀ m ρ) (fun r => Ends a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := initOf (Pipeline.cells (pcs a) ((launch0 (F := F)).cellOf_inj fun _ => a)) (Pipeline.launchToks (pcs a) ((launch0 (F := F)).cellOf_inj fun _ => a)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m ρ)
    (hout := phi_last a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and the counters at zero. -/
theorem frame_at (hp : ∀ (c : Dev nD) j, m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 5)).trans ((dats a m ρ 0 c).arrAt_in (0 : Fin 5) rfl _),
    ((h.1 c).2 0).trans (hp c 0).symm, ((h.1 c).2 1).trans (hp c 1).symm, ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run_main a m ρ hp)

end Cert.Kernel2Ideal.Exp

end
-- ==== Proof.Kernel2IdealTables.lean ====
/-
  The expert kernel's tables: the blocks its index maps name, as numbers; that a table of experts below eight with at least
  one live tile is admissible; and the frame under the stated precondition.
-/
module

public import proofs.«01_k».proof.Proof.Kernel2IdealRun
public import proofs.«01_k».proof.Proof.Tiles

@[expose] public section

set_option maxRecDepth 16384

noncomputable section

namespace Cert.Kernel2Ideal.Exp

open Cert.Kernel2Ideal Cert.Kernel2Ideal.Gen
open Idealize.ShloMosaic Idealize.ShloMosaic.TcCoe Idealize.SL.Sem

variable {F : FTy → Type} [FloatOps F]

/-! ## The words -/

theorem sub_one (n : BitVec 32) (hn : 0 < n.toInt) : (n - 1#32).toInt = n.toInt - 1 := by
  have := n.isLt
  rw [BitVec.toInt_eq_toNat_cond] at hn ⊢
  rw [BitVec.toInt_eq_toNat_cond, BitVec.toNat_sub]
  simp only [BitVec.toNat_ofNat]
  split at hn <;> split <;> omega

theorem small_toInt (k : ℕ) (hk : k < 40) : (BitVec.ofNat 32 k).toInt = k := by
  rw [BitVec.toInt_eq_toNat_cond, BitVec.toNat_ofNat]; split <;> omega

theorem small_toNat (k : ℕ) (hk : k < 40) : (BitVec.ofNat 32 k).toNat = k := by
  rw [BitVec.toNat_ofNat]; omega

/-- The row block read: the tile's own while it is live, the last live tile's after. -/
theorem min_live (k : ℕ) (n : BitVec 32) (hk : k < 40) (hn : 0 < n.toInt) (h : (BitVec.ofNat 32 k).slt n = true) :
    (Scalar.minsi (BitVec.ofNat 32 k) (Scalar.subi n 1#32)).toNat = k := by
  have e : Scalar.subi n 1#32 = n - 1#32 := rfl
  have h1 := sub_one n hn
  have h2 := small_toInt k hk
  simp only [Scalar.minsi, IntOp.minsi, e]
  rw [BitVec.slt_eq_decide, decide_eq_true_eq, h2] at h
  split
  · exact small_toNat k hk
  · rename_i q
    rw [BitVec.slt_eq_decide, decide_eq_true_eq, h1, h2] at q
    have : (n - 1#32).toInt = (BitVec.ofNat 32 k).toInt := by rw [h1, h2]; omega
    rw [BitVec.toInt_inj.1 this]; exact small_toNat k hk

theorem min_le (k : ℕ) (n : BitVec 32) (hk : k < 40) (hn : 0 < n.toInt) :
    (Scalar.minsi (BitVec.ofNat 32 k) (Scalar.subi n 1#32)).toNat < 40 := by
  have e : Scalar.subi n 1#32 = n - 1#32 := rfl
  have h1 := sub_one n hn
  have h2 := small_toInt k hk
  simp only [Scalar.minsi, IntOp.minsi, e]
  split
  · rw [small_toNat k hk]; exact hk
  · rename_i q
    rw [BitVec.slt_eq_decide, decide_eq_true_eq, h1, h2] at q
    have h3 := BitVec.toInt_eq_toNat_cond (n - 1#32)
    have := (n - 1#32).isLt
    split at h3 <;> omega

theorem chunk_live (k j : ℕ) (n : BitVec 32) (hj : j < 7) (h : (BitVec.ofNat 32 k).slt n = true) :
    (Scalar.select (Scalar.cmpi .slt (BitVec.ofNat 32 k) n) (BitVec.ofNat 32 j) 6#32).toNat = j := by
  have e : (Scalar.cmpi .slt (BitVec.ofNat 32 k) n : BitVec 1) = 1#1 := by
    show BitVec.ofBool ((BitVec.ofNat 32 k).slt n) = 1#1
    rw [h]; rfl
  rw [Scalar.select, if_pos (show _ = (1 : BitVec 1) from e)]; exact small_toNat j (by omega)

theorem chunk_lt (c : BitVec 1) (j : ℕ) (hj : j < 7) : (Scalar.select c (BitVec.ofNat 32 j) 6#32).toNat < 7 := by
  rw [Scalar.select]; split
  · rw [small_toNat j (by omega)]; exact hj
  · decide

/-! ## The index maps -/

/-- A tile's index in the table of experts. -/
def tileIx (k : ℕ) (hk : k < 40) : S40.Idx := fun a => ⟨k, by fin_cases a; exact hk⟩

theorem tile_idx (z z' : S40.Idx) (h : (z 0).val = (z' 0).val) : z = z' := funext fun a => by
  fin_cases a; exact Fin.ext h

theorem unit_first (v : ℕ) (h : ∀ a, (![v] : Fin 1 → ℕ) a + S1.size a ≤ S40.size a)
    (h1 : (Rect.unit (s := S40) ![v] S1.size h).shape.numel = 1) :
    ((Rect.unit (s := S40) ![v] S1.size h).emb (Shape.Idx.first (h1.symm ▸ Nat.one_pos)) 0).val = v := by
  rw [Rect.emb_apply]
  have e : ((Shape.Idx.first (s := (Rect.unit (s := S40) ![v] S1.size h).shape) (h1.symm ▸ Nat.one_pos)) 0).val = 0 :=
    Nat.lt_one_iff.1 (Fin.isLt _)
  rw [e, Nat.mul_zero]
  rfl

section Maps
variable (pf : pre0.Contents (Elt F)) (i : grid0.Coords)

def pte : Vec F S40 .i32 := pf 0
def pnt : Vec F S1 .i32 := pf 1

/-- The expert the tables name for a tile. -/
def expert (k : ℕ) (hk : k < 40) : ℕ := (show BitVec 32 from pte pf (tileIx k hk)).toNat
/-- The number of live tiles. -/
def liveCount : BitVec 32 := pnt pf zero1

theorem at_count (r : Rect S1) (h1 : r.shape.numel = 1) : (show BitVec 32 from pf.at 1 r h1) = liveCount pf :=
  congrArg (pnt pf) (one_idx _ _)

theorem i0_lt : (i 0).val < 40 := (i 0).isLt
theorem i1_lt : (i 1).val < 7 := (i 1).isLt

theorem at_tile (v : BitVec 32) (hv : v.toNat = (i 0).val) (h : ∀ a, (![v.toNat] : Fin 1 → ℕ) a + S1.size a ≤ S40.size a)
    (h1 : (Rect.unit (s := S40) ![v.toNat] S1.size h).shape.numel = 1) :
    (show BitVec 32 from pf.at 0 (Rect.unit (s := S40) ![v.toNat] S1.size h) h1).toNat = expert pf (i 0).val (i0_lt i) := by
  exact congrArg (fun z => (show BitVec 32 from pte pf z).toNat) (tile_idx _ _ ((unit_first _ h h1).trans hv))

theorem idx_word : (Scalar.indexCast (BitVec.ofNat 32 (i 0).val) : BitVec 32).toNat = (i 0).val := by
  have h := congrFun (k0_off1_eq i) 0
  exact h

theorem tf0 : cc0_transform_0 inb_S1_S1_0 numel1_S1 pf i
    = ![(Scalar.minsi (BitVec.ofNat 32 (i 0).val) (Scalar.subi (liveCount pf) 1#32)).toNat, 0] := by
  have e := at_count pf (Rect.unit (s := S1) ![0] S1.size inb_S1_S1_0) numel1_S1
  unfold cc0_transform_0
  rw [← e]; rfl

theorem tf1 : cc0_transform_1 k0_off1_inb numel1_S1 inb_S1_S1_0 pf i
    = ![expert pf (i 0).val (i0_lt i), 0,
      (Scalar.select (Scalar.cmpi .slt (BitVec.ofNat 32 (i 0).val) (liveCount pf)) (BitVec.ofNat 32 (i 1).val) 6#32).toNat] := by
  have e := at_count pf (Rect.unit (s := S1) ![0] S1.size inb_S1_S1_0) numel1_S1
  have e' := at_tile pf i _ (idx_word i) (k0_off1_inb i) numel1_S1
  unfold cc0_transform_1
  rw [← e, ← e']; rfl

theorem tf2 : cc0_transform_2 k0_off1_inb numel1_S1 inb_S1_S1_0 pf i
    = ![expert pf (i 0).val (i0_lt i), 0,
      (Scalar.select (Scalar.cmpi .slt (BitVec.ofNat 32 (i 0).val) (liveCount pf)) (BitVec.ofNat 32 (i 1).val) 6#32).toNat] := tf1 pf i

theorem tf3 : cc0_transform_3 k0_off1_inb numel1_S1 inb_S1_S1_0 pf i
    = ![expert pf (i 0).val (i0_lt i),
      (Scalar.select (Scalar.cmpi .slt (BitVec.ofNat 32 (i 0).val) (liveCount pf)) (BitVec.ofNat 32 (i 1).val) 6#32).toNat, 0] := by
  have e := at_count pf (Rect.unit (s := S1) ![0] S1.size inb_S1_S1_0) numel1_S1
  have e' := at_tile pf i _ (idx_word i) (k0_off1_inb i) numel1_S1
  unfold cc0_transform_3
  rw [← e, ← e']; rfl

end Maps

theorem wide (p q : ℕ) (hp : p < 8) (hq : q < 7) (b : Fin 3) : ((![p, 0, q] : Fin 3 → ℕ) b + 1) * S1x1024x512.size b ≤ S8x1024x3584.size b := by
  fin_cases b
  · show (p + 1) * 1 ≤ 8; omega
  · show (0 + 1) * 1024 ≤ 1024; omega
  · show (q + 1) * 512 ≤ 3584; omega
theorem tall (p q : ℕ) (hp : p < 8) (hq : q < 7) (b : Fin 3) : ((![p, q, 0] : Fin 3 → ℕ) b + 1) * S1x512x1024.size b ≤ S8x3584x1024.size b := by
  fin_cases b
  · show (p + 1) * 1 ≤ 8; omega
  · show (q + 1) * 512 ≤ 3584; omega
  · show (0 + 1) * 1024 ≤ 1024; omega
theorem deep (p : ℕ) (hp : p < 40) (b : Fin 2) : ((![p, 0] : Fin 2 → ℕ) b + 1) * S1024x1024.size b ≤ S40960x1024.size b := by
  fin_cases b
  · show (p + 1) * 1024 ≤ 40960; omega
  · show (0 + 1) * 1024 ≤ 1024; omega

/-- Tables whose experts are all below eight and whose count of live tiles is positive are admissible. -/
theorem admissible (pf : pre0.Contents (Elt F)) (h1 : ∀ z : S40.Idx, (show BitVec 32 from pte pf z).toNat < 8)
    (h2 : ∀ z : S1.Idx, 0 < (show BitVec 32 from pnt pf z).toInt) : ok0 pf := by
  have hn : 0 < (liveCount pf).toInt := h2 _
  refine ⟨fun i => ⟨?_, .inl rfl⟩, fun i => ⟨?_, .inl rfl⟩, fun i => ⟨?_, .inl rfl⟩, fun i => ⟨?_, .inl rfl⟩⟩ <;> intro b
  · rw [tf0]; exact deep _ (min_le _ _ (i0_lt i) hn) b
  · rw [tf1]; exact wide _ _ (h1 _) (chunk_lt _ _ (i1_lt i)) b
  · rw [tf2]; exact wide _ _ (h1 _) (chunk_lt _ _ (i1_lt i)) b
  · rw [tf3]; exact tall _ _ (h1 _) (chunk_lt _ _ (i1_lt i)) b

/-! ## The tables of a memory -/

section Mem
variable (m : (ℓ : Loc nD τ sig) → Buf (Elt F) ℓ) (ρ : Dev nD → PrngReg)

/-- The two tables a memory holds. -/
def tables : pre0.Contents (Elt F) := fun j => m (((0 : Dev nD).tc : Thread nD τ).loc (pre0.ref j))

theorem tables_at (c : Dev nD) (j : Fin 2) : m ((c : Thread nD τ).loc (pre0.ref j)) = tables m j := by
  obtain rfl : c = 0 := Subsingleton.elim _ _
  rfl

/-- What the precondition says of a memory: every tile's expert is below eight, and some tile is live. -/
def Named : Prop := (∀ z : S40.Idx, (show BitVec 32 from pte (tables m) z).toNat < 8) ∧ ∀ z : S1.Idx, 0 < (show BitVec 32 from pnt (tables m) z).toInt

/-- The admissible tables of such a memory. -/
def adm (h : Named m) : (pcfg0 (F := F)).Adm := ⟨tables m, admissible _ h.1 h.2⟩

theorem named_of [Cert.Pre_tiles_named.Facts] (h : ∀ c : Dev nD, Cert.Pre_tiles_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) : Named m :=
  Cert.Tiles.of_pre _ _ _ _ _ _ (h 0)

theorem frame (h : Named m) : type_of% (frame_at (adm m h) m ρ fun c j => tables_at m c j) :=
  frame_at (adm m h) m ρ fun c j => tables_at m c j

end Mem

end Cert.Kernel2Ideal.Exp
-- ==== Proof.ExpertTile.lean ====
/-
  What the expert kernel's body stores at one grid point, as sums over the chunk's hidden places.
-/
module

public import proofs.«01_k».proof.Proof.Expert
public import proofs.«01_k».proof.Proof.Kernel2IdealTables

@[expose] public section

set_option maxRecDepth 16384
set_option maxHeartbeats 400000

noncomputable section

namespace Cert.Kernel2Ideal.Exp

open Cert.Kernel2Ideal Cert.Kernel2Ideal.Gen
open Idealize.ShloMosaic Idealize.ShloMosaic.TcCoe
open Cert.Expert

variable (x : Vec Ideal S1024x1024 .bf16) (g u : Vec Ideal S1x1024x512 .f32) (w : Vec Ideal S1x512x1024 .f32) (acc : Vec Ideal S1024x1024 .f32)

/-- The gate as the kernel spells it: its exponent subtracted from zero. -/
theorem gate_ker (p q z o : EReal) (hz : z = 0) (ho : o = 1) : p * Ideal.div o (o + Ideal.exp (z - p)) * q = gate p q := by
  subst hz ho
  rw [zero_sub]
  rfl

/-- The chunk's part of an output. -/
theorem part_at (r d : Fin 1024) :
    k0_pay3 (F := Ideal) x g u w (ix2 r d)
      = ∑ k : Fin 512, part (fun j => x (ix2 r j)) (fun j => g (ix3 0 j k)) (fun j => u (ix3 0 j k)) (w (ix3 0 k d)) := by
  pointwise [k0_pay3]
  exact Finset.sum_congr rfl fun k _ => congrArg (· * w (ix3 0 k d)) (gate_ker _ _ 0 1 rfl rfl)

theorem begin_at (r d : Fin 1024) : k0_pay4 (F := Ideal) x g u w (ix2 r d) = k0_pay3 (F := Ideal) x g u w (ix2 r d) := by
  pointwise [k0_pay4]
theorem more_at (r d : Fin 1024) : k0_pay5 (F := Ideal) x g u w acc (ix2 r d) = acc (ix2 r d) + k0_pay3 (F := Ideal) x g u w (ix2 r d) := by
  pointwise [k0_pay5]
theorem round_at (X : Vec Ideal S1024x1024 .f32) (r j : Fin 1024) : k0_pay2 (F := Ideal) X (ix2 r j) = X (ix2 r j) := by
  pointwise [k0_pay2]
theorem zero_at (r d : Fin 1024) : k0_pay1 (F := Ideal) (ix2 r d) = 0 := by
  unfold k0_pay1
  pointwise []

end Cert.Kernel2Ideal.Exp
-- ==== Proof.ExpertRun.lean ====
/-
  The expert kernel's run, read: every row of a live tile holds its tile's expert's feed-forward, every other row zero.
-/
module

public import proofs.«01_k».proof.Proof.ExpertTile
public import Idealize.ShloMosaic.Lib.Pipeline.Value

@[expose] public section

set_option maxRecDepth 16384
set_option maxHeartbeats 400000

noncomputable section

namespace Cert.Kernel2Ideal.Exp

open Cert.Kernel2Ideal Cert.Kernel2Ideal.Gen
open Idealize.ShloMosaic Idealize.ShloMosaic.TcCoe Idealize.SL.Sem
open Idealize.ShloMosaic.Pipeline (Dat)
open Cert.Expert

variable (a : (pcfg0 (F := Ideal)).Adm) (m : (ℓ : Loc nD τ sig) → Buf (Elt Ideal) ℓ) (ρ : Dev nD → PrngReg) (c : Dev nD)

/-- The float arguments at launch, and the tables. -/
def ax : Vec Ideal S40960x1024 .f32 := m ((c : Thread nD τ).loc main_arg0)
def ag : Vec Ideal S8x1024x3584 .f32 := m ((c : Thread nD τ).loc main_arg3)
def au : Vec Ideal S8x1024x3584 .f32 := m ((c : Thread nD τ).loc main_arg4)
def ad : Vec Ideal S8x3584x1024 .f32 := m ((c : Thread nD τ).loc main_arg5)
def at1 (k : Fin 40) : BitVec 32 := pte a.1 (ix1 k)
def at2 : BitVec 32 := pnt a.1 (ix1 0)

theorem cnt_eq : cnt a = at2 a := tab1_at a _ ▸ rfl

theorem tile_lt (t : Fin (cfgA a).N) : t.val / 7 < 40 := by
  have := lt_of_lt_of_eq t.isLt (N_A a)
  omega

theorem live_pos (k : ℕ) (hk : k < 40) (h : live a k) : 0 < (cnt a).toInt := by
  have h2 := small_toInt k hk
  unfold live at h
  rw [BitVec.slt_eq_decide, decide_eq_true_eq, h2] at h
  omega

theorem expert_at (t : Fin (cfgA a).N) (hk) : expert a.1 ((crd a t : grid0.Coords) 0).val hk = (at1 a ⟨t.val / 7, tile_lt a t⟩).toNat :=
  congrArg (fun z => (show BitVec 32 from pte a.1 z).toNat) (tile_idx _ _ (crdA0 a t))

/-! ## The input blocks -/

section Blocks
variable (t : Fin (cfgA a).N) (hl : live a (t.val / 7))

/-- The place of row `r` of `t`'s tile. -/
def rowAt (r : Fin 1024) : Fin 40960 := ⟨t.val / 7 * 1024 + r.val, by have := tile_lt a t; omega⟩
/-- The place of `t`'s chunk. -/
def chunkAt : Fin 7 := ⟨t.val % 7, by omega⟩

include hl

theorem map0 : cc0_transform_0 inb_S1_S1_0 numel1_S1 a.1 (crd a t) = ![t.val / 7, 0] := by
  rw [tf0, crdA0]
  rw [min_live (t.val / 7) (liveCount a.1) (tile_lt a t) (live_pos a _ (tile_lt a t) hl) hl]

theorem pick_chunk : (Scalar.select (Scalar.cmpi .slt (BitVec.ofNat 32 ((crd a t : grid0.Coords) 0).val) (liveCount a.1))
    (BitVec.ofNat 32 ((crd a t : grid0.Coords) 1).val) 6#32).toNat = t.val % 7 := by
  rw [crdA0, crdA1]
  exact chunk_live _ _ _ (by omega) hl

theorem map1 : cc0_transform_1 k0_off1_inb numel1_S1 inb_S1_S1_0 a.1 (crd a t) = ![(at1 a ⟨t.val / 7, tile_lt a t⟩).toNat, 0, t.val % 7] := by
  rw [tf1, expert_at, pick_chunk a t hl]
theorem map3 : cc0_transform_3 k0_off1_inb numel1_S1 inb_S1_S1_0 a.1 (crd a t) = ![(at1 a ⟨t.val / 7, tile_lt a t⟩).toNat, t.val % 7, 0] := by
  rw [tf3, expert_at, pick_chunk a t hl]

theorem bx_at (r j : Fin 1024) : bx a m ρ c t (ix2 r j) = ax m c (ix2 (rowAt a t r) j) := by
  have e (h) : (Rect.block (s := S40960x1024) S1024x1024.size (cc0_transform_0 inb_S1_S1_0 numel1_S1 a.1 (crd a t)) h).emb (ix2 r j)
      = ix2 (rowAt a t r) j := by
    refine Rect.emb_eq_of_coords _ _ _ fun b => ?_
    simp only [Rect.block, map0 a t hl]
    fin_cases b <;> simp [rowAt]
  exact congrArg (ax m c) (e (hinb0 a.1 a.2 (0 : Fin 5) (crd a t)))

variable (e : Fin 8) (he : (at1 a ⟨t.val / 7, tile_lt a t⟩).toNat = e.val)
include he

theorem wide_at (h) (j : Fin 1024) (q : Fin 512) :
    (Rect.block (s := S8x1024x3584) S1x1024x512.size (cc0_transform_1 k0_off1_inb numel1_S1 inb_S1_S1_0 a.1 (crd a t)) h).emb (ix3 (0 : Fin 1) j q)
      = ix3 e j (place (chunkAt a t) q) := by
  refine Rect.emb_eq_of_coords _ _ _ fun b => ?_
  simp only [Rect.block, map1 a t hl, he]
  fin_cases b <;> simp [place, chunkAt]

theorem bg_at (j : Fin 1024) (q : Fin 512) : bg a m ρ c t (ix3 0 j q) = ag m c (ix3 e j (place (chunkAt a t) q)) :=
  congrArg (ag m c) (wide_at a t hl e he (hinb0 a.1 a.2 (1 : Fin 5) (crd a t)) j q)
theorem bu_at (j : Fin 1024) (q : Fin 512) : bu a m ρ c t (ix3 0 j q) = au m c (ix3 e j (place (chunkAt a t) q)) :=
  congrArg (au m c) (wide_at a t hl e he (hinb0 a.1 a.2 (2 : Fin 5) (crd a t)) j q)
theorem bd_at (q : Fin 512) (d : Fin 1024) : bd a m ρ c t (ix3 0 q d) = ad m c (ix3 e (place (chunkAt a t) q) d) := by
  have k (h) : (Rect.block (s := S8x3584x1024) S1x512x1024.size (cc0_transform_3 k0_off1_inb numel1_S1 inb_S1_S1_0 a.1 (crd a t)) h).emb (ix3 (0 : Fin 1) q d)
      = ix3 e (place (chunkAt a t) q) d := by
    refine Rect.emb_eq_of_coords _ _ _ fun b => ?_
    simp only [Rect.block, map3 a t hl, he]
    fin_cases b <;> simp [place, chunkAt]
  exact congrArg (ad m c) (k (hinb0 a.1 a.2 (3 : Fin 5) (crd a t)))

end Blocks

/-! ## A live tile's sum -/

/-- A hidden place's part of an output. -/
def partAt (e : Fin 8) (R : Fin 40960) (d : Fin 1024) (k : Fin 3584) : EReal :=
  part (fun j => ax m c (ix2 R j)) (fun j => ag m c (ix3 e j k)) (fun j => au m c (ix3 e j k)) (ad m c (ix3 e k d))

theorem chunk_at (t : Fin (cfgA a).N) (hl : live a (t.val / 7)) (e : Fin 8) (he : (at1 a ⟨t.val / 7, tile_lt a t⟩).toNat = e.val)
    (X : Vec Ideal S1024x1024 .bf16) (R : Fin 40960) (r d : Fin 1024) (hX : ∀ j, X (ix2 r j) = ax m c (ix2 R j)) :
    k0_pay3 (F := Ideal) X (bg a m ρ c t) (bu a m ρ c t) (bd a m ρ c t) (ix2 r d) = ∑ q, partAt m c e R d (place (chunkAt a t) q) := by
  rw [part_at]
  refine Finset.sum_congr rfl fun q _ => ?_
  unfold partAt
  rw [show (fun j => X (ix2 r j)) = fun j => ax m c (ix2 R j) from funext hX,
    show (fun j => bg a m ρ c t (ix3 0 j q)) = _ from funext fun j => bg_at a m ρ c t hl e he j q,
    show (fun j => bu a m ρ c t (ix3 0 j q)) = _ from funext fun j => bu_at a m ρ c t hl e he j q, bd_at a m ρ c t hl e he q d]

theorem sofar_at (e : Fin 8) (i : ℕ) (hi : i < 40) (hl : live a i) (he : (at1 a ⟨i, hi⟩).toNat = e.val) (r d : Fin 1024) (n : ℕ) :
    ∀ t : Fin (cfgA a).N, n < 7 → t.val = 7 * i + n →
      sofar a m ρ c t.val t.isLt (ix2 r d) = upTo (partAt m c e ⟨i * 1024 + r.val, by omega⟩ d) n := by
  induction n with
  | zero =>
    intro t _ ht
    have h7 : t.val / 7 = i := by omega
    have hl' : live a (t.val / 7) := h7.symm ▸ hl
    have he' : (at1 a ⟨t.val / 7, tile_lt a t⟩).toNat = e.val := (congrArg (fun k => (at1 a k).toNat) (Fin.ext h7)).trans he
    rw [sofar_first a m ρ c t (by omega), begin_at, upTo_zero]
    rw [chunk_at a m ρ c t hl' e he' _ ⟨i * 1024 + r.val, by omega⟩ r d fun j =>
      (round_at _ r j).trans ((bx_at a m ρ c t hl' r j).trans (congrArg (fun R => ax m c (ix2 R j)) (Fin.ext (by show t.val / 7 * 1024 + r.val = _; rw [h7]))))]
    rw [show chunkAt a t = 0 from Fin.ext (by show t.val % 7 = 0; omega)]
  | succ n ih =>
    intro t hn ht
    have h7 : t.val / 7 = i := by omega
    have hl' : live a (t.val / 7) := h7.symm ▸ hl
    have he' : (at1 a ⟨t.val / 7, tile_lt a t⟩).toNat = e.val := (congrArg (fun k => (at1 a k).toNat) (Fin.ext h7)).trans he
    let t' : Fin (cfgA a).N := ⟨t.val - 1, lt_of_le_of_lt (Nat.sub_le _ _) t.isLt⟩
    have e' : t.val = t'.val + 1 := by show t.val = t.val - 1 + 1; omega
    have hf : (first a t').val / 7 = i := by show 7 * (t'.val / 7) / 7 = i; omega
    have hlf : live a ((first a t').val / 7) := hf.symm ▸ hl
    rw [sofar_next a m ρ c t t' e' (by omega), more_at, upTo_succ _ n (by omega)]
    unfold rows
    rw [ih t' (by omega) (by omega)]
    rw [chunk_at a m ρ c t hl' e he' _ ⟨i * 1024 + r.val, by omega⟩ r d fun j =>
      (round_at _ r j).trans ((bx_at a m ρ c (first a t') hlf r j).trans (congrArg (fun R => ax m c (ix2 R j)) (Fin.ext (by show (first a t').val / 7 * 1024 + r.val = _; rw [hf]))))]
    rw [show chunkAt a t = ⟨n + 1, by omega⟩ from Fin.ext (by show t.val % 7 = n + 1; omega)]

/-! ## The result array -/

/-- What the launch leaves in the result array. -/
def result : Vec Ideal S40960x1024 .f32 := fun i =>
  moe (fun r j => ax m c (ix2 r j)) (at1 a) (at2 a) (fun e j k => ag m c (ix3 e j k)) (fun e j k => au m c (ix3 e j k))
    (fun e k d => ad m c (ix3 e k d)) (i 0) (i 1)

variable (h8 : ∀ z : S40.Idx, (show BitVec 32 from pte a.1 z).toNat < 8)

include h8 in
/-- What a tile's last point writes back, entry by entry. -/
theorem outAt_at (t : Fin (cfgA a).N) (h6 : t.val % 7 = 6) (r d : Fin 1024) :
    outAt a m ρ c t (ix2 r d) = result a m c (ix2 (rowAt a t r) d) := by
  have hi := tile_lt a t
  have hr : (rowAt a t r).val / 1024 = t.val / 7 := by show (t.val / 7 * 1024 + r.val) / 1024 = _; omega
  have hT : (⟨(rowAt a t r).val / 1024, by omega⟩ : Fin 40) = ⟨t.val / 7, hi⟩ := Fin.ext hr
  unfold outAt result
  show _ = moe _ _ _ _ _ _ (rowAt a t r) d
  unfold moe
  by_cases hl : live a (t.val / 7)
  · rw [if_pos hl]
    have hc : (at1 a ⟨(rowAt a t r).val / 1024, by omega⟩).toNat < 8 ∧ (BitVec.ofNat 32 ((rowAt a t r).val / 1024)).slt (at2 a) = true :=
      ⟨h8 _, by rw [hr, ← cnt_eq]; exact hl⟩
    rw [dif_pos hc]
    rw [sofar_at a m ρ c ⟨_, hc.1⟩ (t.val / 7) hi hl (congrArg (fun k => (at1 a k).toNat) hT.symm) r d 6 t (by omega) (by omega), upTo_all]
    rfl
  · rw [if_neg hl, dif_neg, zero_at]
    rintro ⟨_, h⟩
    rw [hr, ← cnt_eq] at h
    exact hl h

theorem map4 (t : Fin (cfgA a).N) : cc0_transform_4 (crd a t) = ![t.val / 7, 0] := by rw [tf4, crdA0]

/-- Where the output block's entry lies in the result array. -/
theorem blk4 (t : Fin (cfgA a).N) (h) (r d : Fin 1024) :
    (Rect.block (s := S40960x1024) S1024x1024.size (cc0_transform_4 (crd a t)) h).emb (ix2 r d) = ix2 (rowAt a t r) d := by
  refine Rect.emb_eq_of_coords _ _ _ fun b => ?_
  have e0 : cc0_transform_4 (crd a t) 0 = t.val / 7 := congrFun (map4 a t) 0
  have e1 : cc0_transform_4 (crd a t) 1 = 0 := congrFun (map4 a t) 1
  simp only [Rect.block]
  fin_cases b <;> simp [rowAt, e0, e1]

include h8 in
theorem flushed_at (t : Fin (cfgA a).N) (h6 : t.val % 7 = 6) :
    (dats a m ρ 0 c).flushed (4 : Fin 5) t = (((cfgA a).win (4 : Fin 5)).blk t).view.read (Elt Ideal) (result a m c) := by
  refine funext fun (y : S1024x1024.Idx) => ?_
  obtain ⟨r, d, rfl⟩ : ∃ (r d : Fin 1024), y = ix2 r d := ⟨y 0, y 1, eq_ix2 y⟩
  refine (outAt_at a m ρ c h8 t h6 r d).trans ?_
  exact (congrArg (result a m c) (blk4 a t (hinb0 a.1 a.2 (4 : Fin 5) (crd a t)) r d)).symm

/-- Every entry lies in the block of its tile. -/
theorem mem_blk (t : Fin (cfgA a).N) (i : S40960x1024.Idx) (h0 : (i 0).val / 1024 = t.val / 7) :
    i ∈ (((cfgA a).win (4 : Fin 5)).blk t).view.set := by
  have h1 : (i 1).val < 1024 := (i 1).isLt
  have key (h) : i ∈ (Rect.block (s := S40960x1024) S1024x1024.size (cc0_transform_4 (crd a t)) h).set := by
    rw [Rect.mem_set_unit]
    intro b
    match b with
    | ⟨0, _⟩ => show cc0_transform_4 (crd a t) 0 * 1024 ≤ (i 0).val ∧ (i 0).val < cc0_transform_4 (crd a t) 0 * 1024 + 1024
                rw [map4]; show t.val / 7 * 1024 ≤ _ ∧ _ < t.val / 7 * 1024 + 1024; omega
    | ⟨1, _⟩ => show cc0_transform_4 (crd a t) 1 * 1024 ≤ (i 1).val ∧ (i 1).val < cc0_transform_4 (crd a t) 1 * 1024 + 1024
                rw [map4]; show 0 * 1024 ≤ _ ∧ _ < 0 * 1024 + 1024; omega
  show i ∈ ((View.whole main_v0).slice (((cfgA a).win (4 : Fin 5)).rect t)).set
  rw [View.set_slice_whole]
  exact key (hinb0 a.1 a.2 (4 : Fin 5) (crd a t))

include h8 in
/-- The result array ends holding it. -/
theorem final_o : (dats a m ρ 0 c).arrAt (4 : Fin 5) (cfgA a).N = result a m c :=
  (dats a m ρ 0 c).arrAt_eq_of_cover (4 : Fin 5) (result a m c)
    (fun t h => flushed_at a m ρ c h8 t (of_decide_eq_true ((flush4 a t).symm.trans h))) fun (i : S40960x1024.Idx) =>
    have h0 : (i 0).val < 40960 := (i 0).isLt
    have hlt : 7 * ((i 0).val / 1024) + 6 < (cfgA a).N := lt_of_lt_of_eq (by omega : _ < 280) (N_A a).symm
    ⟨⟨7 * ((i 0).val / 1024) + 6, hlt⟩, (flush4 a _).trans (decide_eq_true (show (7 * ((i 0).val / 1024) + 6) % 7 = 6 by omega)),
      mem_blk a _ i (show (i 0).val / 1024 = (7 * ((i 0).val / 1024) + 6) / 7 by omega)⟩

/-- The run under the precondition, read: the result array at the experts' outputs, the arguments unchanged. -/
theorem run (h : Named m) : θ_run (defs (F := Ideal)) (onTc (τ := τ) (main (F := Ideal))) ⟨m, fun _ => 0, ρ⟩ fun r => ∀ c : Dev nD,
      r.2.mem ((c.tc : Thread nD τ).loc main_v0) = result (adm m h) m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ q c => ⟨((q.1.1 c).1 (4 : Fin 5)).trans (final_o (adm m h) m ρ c h.1), q.2.1 c⟩)
    (θ_run_and (run_main (adm m h) m ρ fun c j => tables_at m c j) (frame m ρ h))

end Cert.Kernel2Ideal.Exp
-- ==== Proof.ExpertRef.lean ====
/-
  The experts' reference: its last operation's result holds, at every entry, the tile's expert's feed-forward of the row.
-/
module

public import proofs.«01_k».proof.Proof.Expert
public import proofs.«01_k».proof.Proof.Gen.Reference2Ideal.Read

@[expose] public section

set_option maxRecDepth 16384
set_option maxHeartbeats 400000

noncomputable section

namespace Cert.Reference2Ideal.Exp

open Cert.Reference2Ideal Cert.Reference2Ideal.Gen Cert.Reference2Ideal.Read
open Idealize.ShloMosaic Idealize.ShloMosaic.TcCoe Idealize.SL.Sem
open Cert.Expert

variable (x0 : (⟨S40960x1024, .f32⟩ : BufTy).Contents (Elt Ideal)) (x1 : (⟨S40, .i32⟩ : BufTy).Contents (Elt Ideal))
  (x2 : (⟨S1, .i32⟩ : BufTy).Contents (Elt Ideal)) (x3 x4 : (⟨S8x1024x3584, .f32⟩ : BufTy).Contents (Elt Ideal))
  (x5 : (⟨S8x3584x1024, .f32⟩ : BufTy).Contents (Elt Ideal))

/-- The arguments by their coordinates. -/
abbrev X (r : Fin 40960) (j : Fin 1024) : EReal := x0 (ix2 r j)
abbrev T (i : Fin 40) : BitVec 32 := x1 (ix1 i)
abbrev C : BitVec 32 := x2 (ix1 0)
abbrev W (e : Fin 8) (j : Fin 1024) (k : Fin 3584) : EReal := x3 (ix3 e j k)
abbrev D (e : Fin 8) (k : Fin 3584) (d : Fin 1024) : EReal := x5 (ix3 e k d)

/-- The first products. -/
theorem dot1_at (i : S40960x8x3584.Idx) (r : Fin 40960) (e : Fin 8) (k : Fin 3584) (hi : i = ix3 r e k) :
    val_main_v15 (F := Ideal) x0 x3 i = ∑ j, X x0 r j * W x3 e j k := by
  subst hi
  rw [val_main_v15_apply]
  exact Finset.sum_congr rfl fun j _ => congrArg₂ (· * ·) (congrArg x0 (eq_ix2 _)) (congrArg x3 (eq_ix3 _))
theorem dot2_at (i : S40960x8x3584.Idx) (r : Fin 40960) (e : Fin 8) (k : Fin 3584) (hi : i = ix3 r e k) :
    val_main_v17 (F := Ideal) x0 x4 i = ∑ j, X x0 r j * W x4 e j k := by
  subst hi
  rw [val_main_v17_apply]
  exact Finset.sum_congr rfl fun j _ => congrArg₂ (· * ·) (congrArg x0 (eq_ix2 _)) (congrArg x4 (eq_ix3 _))

/-- The gate as the reference's operations spell it. -/
theorem gate_host (p q : EReal) :
    FloatOps.mulf (F := Ideal) (φ := .f32) (FloatOps.mulf (F := Ideal) (φ := .f32) p
      (FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.negf (F := Ideal) (φ := .f32) p))))) q = gate p q := by
  unfold gate
  rw [← one_bits]
  rfl

theorem hidden_at (i : S40960x8x3584.Idx) (r : Fin 40960) (e : Fin 8) (k : Fin 3584) (hi : i = ix3 r e k) :
    val_main_v18 (F := Ideal) x0 x3 x4 i = gate (∑ j, X x0 r j * W x3 e j k) (∑ j, X x0 r j * W x4 e j k) := by
  rw [val_main_v18_apply, val_main_v16_apply, val_main_call0_v5_apply, val_main_call0_v4_apply, val_main_call0_cst_0_apply,
    val_main_call0_v3_apply, val_main_call0_v2_apply, val_main_call0_cst_apply, val_main_call0_v1_apply, val_main_call0_v0_apply,
    dot1_at x0 x3 i r e k hi, dot2_at x0 x4 i r e k hi]
  exact gate_host _ _

/-- Every expert's output. -/
theorem out_at (i : S8x40960x1024.Idx) (e : Fin 8) (r : Fin 40960) (d : Fin 1024) (hi : i = ix3 e r d) :
    val_main_v19 (F := Ideal) x0 x3 x4 x5 i
      = ffn fun k => part (X x0 r) (fun j => W x3 e j k) (fun j => W x4 e j k) (D x5 e k d) := by
  subst hi
  rw [val_main_v19_apply]
  exact Finset.sum_congr rfl fun k _ => congrArg₂ (· * ·) (hidden_at x0 x3 x4 _ r e k (eq_ix3 _)) (congrArg x5 (eq_ix3 _))

/-- An expert's weight of a row, as the operations spell it. -/
theorem weight_word (i : S8x40960x1024.Idx) (e : Fin 8) (r : Fin 40960) (d : Fin 1024) (hi : i = ix3 e r d) :
    val_main_v22 (F := Ideal) x1 x2 i
      = (((IntOp.andi (IntOp.cmpi .eq (T x1 ⟨r.val / 1024, by omega⟩) (BitVec.ofNat 32 e.val))
          (IntOp.cmpi .slt (BitVec.ofNat 32 (r.val / 1024)) (C x2))).toNat : ℝ) : EReal) := by
  subst hi
  rw [val_main_v22_apply, val_main_v21_apply, val_main_v20_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply]
  have h1 : (r.val * 8 + e.val) / 8192 = r.val / 1024 := by omega
  have h2 : (r.val * 8 + e.val) % 8 = e.val := by omega
  refine congrArg (fun b : BitVec 1 => ((b.toNat : ℝ) : EReal)) (congrArg₂ IntOp.andi (congrArg₂ (IntOp.cmpi .eq) ?_ ?_)
    (congrArg₂ (IntOp.cmpi .slt) ?_ ?_))
  · exact congrArg x1 ((eq_ix1 _).trans (congrArg ix1 (Fin.ext h1)))
  · exact congrArg (BitVec.ofNat 32) h2
  · exact congrArg (BitVec.ofNat 32) h1
  · exact congrArg x2 ((eq_ix1 _).trans (congrArg ix1 (Fin.ext rfl)))

theorem bit_val (p q : Bool) : (((IntOp.andi (BitVec.ofBool p) (BitVec.ofBool q)).toNat : ℝ) : EReal) = if p = true ∧ q = true then 1 else 0 := by
  cases p <;> cases q <;> simp [IntOp.andi]

theorem weight_at (i : S8x40960x1024.Idx) (e : Fin 8) (r : Fin 40960) (d : Fin 1024) (hi : i = ix3 e r d) :
    val_main_v22 (F := Ideal) x1 x2 i
      = if (T x1 ⟨r.val / 1024, by omega⟩).toNat = e.val ∧ (BitVec.ofNat 32 (r.val / 1024)).slt (C x2) = true then 1 else 0 := by
  rw [weight_word x1 x2 i e r d hi]
  refine (bit_val (T x1 ⟨r.val / 1024, by omega⟩ == BitVec.ofNat 32 e.val) ((BitVec.ofNat 32 (r.val / 1024)).slt (C x2))).trans ?_
  have h : (T x1 ⟨r.val / 1024, by omega⟩ == BitVec.ofNat 32 e.val) = true ↔ (T x1 ⟨r.val / 1024, by omega⟩).toNat = e.val := by
    rw [beq_iff_eq, ← BitVec.toNat_inj, BitVec.toNat_ofNat]
    have := e.isLt
    omega
  simp only [h]

/-- The result. -/
theorem result_at (r : Fin 40960) (d : Fin 1024) :
    val_main_v24 (F := Ideal) x0 x1 x2 x3 x4 x5 (ix2 r d) = moe (X x0) (T x1) (C x2) (W x3) (W x4) (D x5) r d := by
  rw [val_main_v24_apply, val_main_cst_apply]
  refine (congrArg₂ (· + ·) Ideal.ofBits_zero_f32 (Finset.sum_congr rfl fun e _ =>
    ((val_main_v23_apply x0 x1 x2 x3 x4 x5 _).trans (congrArg₂ (· * ·) (weight_at x1 x2 _ e r d (eq_ix3 _)) (out_at x0 x3 x4 x5 _ e r d (eq_ix3 _)))))).trans ?_
  rw [zero_add]
  unfold moe
  split
  · rename_i h
    refine pick (⟨_, h.1⟩ : Fin 8) (fun e => if (T x1 ⟨r.val / 1024, by omega⟩).toNat = e.val ∧ (BitVec.ofNat 32 (r.val / 1024)).slt (C x2) = true then 1 else 0)
      (fun e => ffn fun k => part (X x0 r) (fun j => W x3 e j k) (fun j => W x4 e j k) (D x5 e k d)) (if_pos ⟨rfl, h.2⟩) fun k hk => if_neg fun q => hk (Fin.ext q.1.symm)
  · rename_i h
    refine Finset.sum_eq_zero fun e _ => ?_
    rw [if_neg fun q => h ⟨lt_of_eq_of_lt q.1 e.isLt, q.2⟩, zero_mul]

end Cert.Reference2Ideal.Exp
-- ==== Proof.Dense.lean ====
/-
  The dense feed-forward's row over the extended reals: the hidden sum, and the same sum taken a chunk of 256 hidden
  places at a time; the scaled residual added; the row's layer norm.
-/
module

public import proofs.«01_k».proof.Proof.Expert

@[expose] public section

noncomputable section

namespace Cert.Dense

open Idealize.ShloMosaic

/-- Every hidden place's part, summed. -/
def total (f : Fin 2816 → EReal) : EReal := ∑ k, f k

/-- Place `q` of chunk `k`. -/
def place (k : Fin 11) (q : Fin 256) : Fin 2816 := ⟨k.val * 256 + q.val, by omega⟩

/-- The hidden places, chunk by chunk. -/
def places : Fin 11 × Fin 256 ≃ Fin 2816 where
  toFun p := place p.1 p.2
  invFun k := (⟨k.val / 256, by omega⟩, ⟨k.val % 256, by omega⟩)
  left_inv p := by
    obtain ⟨k, q⟩ := p
    refine Prod.ext (Fin.ext ?_) (Fin.ext ?_)
    · show (k.val * 256 + q.val) / 256 = k.val; omega
    · show (k.val * 256 + q.val) % 256 = q.val; omega
  right_inv k := Fin.ext (by show k.val / 256 * 256 + k.val % 256 = k.val; omega)

/-- The first `n + 1` chunks' sum. -/
def upTo (f : Fin 2816 → EReal) (n : ℕ) : EReal := ∑ k ∈ Finset.range (n + 1), if h : k < 11 then ∑ q, f (place ⟨k, h⟩ q) else 0

theorem upTo_zero (f : Fin 2816 → EReal) : upTo f 0 = ∑ q, f (place 0 q) := by
  unfold upTo
  rw [Finset.sum_range_one]
  rfl

theorem upTo_succ (f : Fin 2816 → EReal) (n : ℕ) (h : n + 1 < 11) : upTo f (n + 1) = upTo f n + ∑ q, f (place ⟨n + 1, h⟩ q) := by
  unfold upTo
  rw [Finset.sum_range_succ, dif_pos h]

/-- All eleven chunks make the whole sum. -/
theorem upTo_all (f : Fin 2816 → EReal) : upTo f 10 = total f := by
  unfold upTo total
  rw [Finset.sum_range, ← places.sum_comp, Fintype.sum_prod_type]
  exact Finset.sum_congr rfl fun k _ => dif_pos k.isLt

/-- The mean of a row. -/
def mean (z : Fin 1024 → EReal) : EReal := Ideal.div (∑ j, z j) (Ideal.ofBits .f32 0x44800000#32)

/-- The row, less its mean. -/
def less (z : Fin 1024 → EReal) (d : Fin 1024) : EReal := z d - mean z

/-- The layer norm of a row: its difference from its mean over the root of its variance, by the gain, plus the bias. -/
def norm (z g b : Fin 1024 → EReal) (d : Fin 1024) : EReal :=
  less z d * Ideal.rsqrt (mean (fun j => less z j * less z j) + Ideal.ofBits .f32 0x3727C5AC#32) * g d + b d

/-- The residual scaled, and the feed-forward added. -/
def add (r y : EReal) : EReal := Ideal.ofBits .f32 0x3FB504F3#32 * r + y

/-- The feed-forward of a row at one place. -/
def ffn (x : Fin 1024 → EReal) (g u : Fin 1024 → Fin 2816 → EReal) (w : Fin 2816 → Fin 1024 → EReal) (d : Fin 1024) : EReal :=
  total fun k => Cert.Expert.part x (fun j => g j k) (fun j => u j k) (w k d)

/-- The call's row. -/
def row (x r : Fin 1024 → EReal) (g u : Fin 1024 → Fin 2816 → EReal) (w : Fin 2816 → Fin 1024 → EReal) (ga be : Fin 1024 → EReal) (d : Fin 1024) : EReal :=
  norm (fun j => add (r j) (ffn x g u w j)) ga be d

end Cert.Dense
-- ==== Proof.DenseTile.lean ====
/-
  What the dense feed-forward's body stores at one grid point, as sums over the chunk's hidden places and a row's norm.
-/
module

public import proofs.«01_k».proof.Proof.Dense
public import proofs.«01_k».proof.Proof.Gen.Kernel3Ideal.Skeleton

@[expose] public section

set_option maxRecDepth 16384
set_option maxHeartbeats 400000

noncomputable section

namespace Cert.Kernel3Ideal.Den

open Cert.Kernel3Ideal Cert.Kernel3Ideal.Gen
open Idealize.ShloMosaic Idealize.ShloMosaic.TcCoe
open Cert.Dense
open Cert.Expert (part gate)

variable (x : Vec Ideal S1024x1024 .bf16) (g u : Vec Ideal S1024x256 .f32) (w : Vec Ideal S256x1024 .f32) (acc res : Vec Ideal S1024x1024 .f32)
  (ga be : Vec Ideal S1x1024 .f32)

/-- The gate as the kernel spells it: its exponent subtracted from zero. -/
theorem gate_ker (p q z o : EReal) (hz : z = 0) (ho : o = 1) : p * Ideal.div o (o + Ideal.exp (z - p)) * q = gate p q := by
  subst hz ho
  rw [zero_sub]
  rfl

/-- The chunk's part of an output. -/
theorem part_at (r d : Fin 1024) :
    k0_pay1 (F := Ideal) x g u w (ix2 r d)
      = ∑ k : Fin 256, part (fun j => x (ix2 r j)) (fun j => g (ix2 j k)) (fun j => u (ix2 j k)) (w (ix2 k d)) := by
  pointwise [k0_pay1]
  exact Finset.sum_congr rfl fun k _ => congrArg (· * w (ix2 k d)) (gate_ker _ _ 0 1 rfl rfl)

theorem begin_at (r d : Fin 1024) : k0_pay2 (F := Ideal) x g u w (ix2 r d) = k0_pay1 (F := Ideal) x g u w (ix2 r d) := by
  pointwise [k0_pay2]
theorem more_at (r d : Fin 1024) : k0_pay3 (F := Ideal) x g u w acc (ix2 r d) = acc (ix2 r d) + k0_pay1 (F := Ideal) x g u w (ix2 r d) := by
  pointwise [k0_pay3]
/-- The last chunk's store: the row's norm. -/
theorem norm_at (r d : Fin 1024) : k0_pay4 (F := Ideal) res acc ga be (ix2 r d)
    = norm (fun j => add (res (ix2 r j)) (acc (ix2 r j))) (fun j => ga (ix2 0 j)) (fun j => be (ix2 0 j)) d := by
  pointwise [k0_pay4]
  rfl
theorem round_at (r d : Fin 1024) : k0_pay5 (F := Ideal) res acc ga be (ix2 r d) = k0_pay4 (F := Ideal) res acc ga be (ix2 r d) := by
  pointwise [k0_pay5]

end Cert.Kernel3Ideal.Den
-- ==== Proof.DenseRun.lean ====
/-
  The dense feed-forward's run, read: both result arrays hold, in every row, the row's norm.
-/
module

public import proofs.«01_k».proof.Proof.DenseTile
public import proofs.«01_k».proof.Proof.Gen.Kernel3Ideal.Value
public import Idealize.ShloMosaic.Lib.VecWindow

@[expose] public section

set_option maxRecDepth 16384
set_option maxHeartbeats 1000000

noncomputable section

namespace Cert.Kernel3Ideal.Den

open Cert.Kernel3Ideal Cert.Kernel3Ideal.Gen
open Idealize.ShloMosaic Idealize.ShloMosaic.TcCoe Idealize.SL.Sem
open Cert.Dense
open Cert.Expert (part)

variable (m : (ℓ : Loc nD τ sig) → Buf (Elt Ideal) ℓ) (ρ : Dev nD → PrngReg) (c : Dev nD)

/-! ## What each point leaves -/

/-- A load of a whole memref reads its contents. -/
theorem ld {κ : Kind} {sp : Space} {s : Shape} {e : EltTy} (M : Memref sig κ sp s e) (h : M.IsWhole) {off : Fin s.rank → ℕ}
    (inb : ∀ a, off a + s.size a ≤ s.size a) (x : s.Idx → Elt Ideal e) :
    View.readAt (Elt Ideal) M.view (Rect.unit off s.size inb).toLoadRect (h.unread x) = x :=
  (View.readAt_full _ _ _).trans (h.read_unread x)

theorem congr2 {x x' : Vec Ideal S1024x1024 .bf16} {g g' u u' : Vec Ideal S1024x256 .f32} {w w' : Vec Ideal S256x1024 .f32}
    (hx : x = x') (hg : g = g') (hu : u = u') (hw : w = w') : k0_pay2 (F := Ideal) x g u w = k0_pay2 x' g' u' w' := by
  subst hx hg hu hw
  rfl
theorem congr3 {x x' : Vec Ideal S1024x1024 .bf16} {g g' u u' : Vec Ideal S1024x256 .f32} {w w' : Vec Ideal S256x1024 .f32}
    {a a' : Vec Ideal S1024x1024 .f32} (hx : x = x') (hg : g = g') (hu : u = u') (hw : w = w') (ha : a = a') :
    k0_pay3 (F := Ideal) x g u w a = k0_pay3 x' g' u' w' a' := by
  subst hx hg hu hw ha
  rfl
theorem congr4 {r r' a a' : Vec Ideal S1024x1024 .f32} {g g' b b' : Vec Ideal S1x1024 .f32} (hr : r = r') (ha : a = a') (hg : g = g') (hb : b = b') :
    k0_pay4 (F := Ideal) r a g b = k0_pay4 r' a' g' b' := by
  subst hr ha hg hb
  rfl
theorem congr5 {r r' a a' : Vec Ideal S1024x1024 .f32} {g g' b b' : Vec Ideal S1x1024 .f32} (hr : r = r') (ha : a = a') (hg : g = g') (hb : b = b') :
    k0_pay5 (F := Ideal) r a g b = k0_pay5 r' a' g' b' := by
  subst hr ha hg hb
  rfl

/-- The sum a point leaves in the scratch. -/
def sofar (n : ℕ) (h : n < cfg0.N) : Vec Ideal S1024x1024 .f32 := (outsAt0 m c n h).2.2

theorem sofar_first (t : Fin cfg0.N) (h0 : t.val % 11 = 0) :
    sofar m c t.val t.isLt = k0_pay2 (F := Ideal) (iblk m c 0 t) (iblk m c 2 t) (iblk m c 3 t) (iblk m c 4 t) := by
  unfold sofar
  rw [outsAt0_A m c t h0 (by omega) (by omega)]
  dsimp only
  unfold sout0_A_0 kernelRun0_A
  dsimp only
  refine (View.read_writes_full _ _ _ _ _).trans ?_
  exact congr2 (ld _ _ _ _) (ld _ _ _ _) (ld _ _ _ _) (ld _ _ _ _)

theorem sofar_mid (t : Fin cfg0.N) (h1 : 1 ≤ t.val % 11) (h2 : ¬t.val % 11 = 10) :
    sofar m c t.val t.isLt = k0_pay3 (F := Ideal) (iblk m c 0 t) (iblk m c 2 t) (iblk m c 3 t) (iblk m c 4 t)
      (sofar m c (t.val - 1) (Nat.lt_of_le_of_lt (Nat.sub_le _ _) t.isLt)) := by
  unfold sofar
  rw [outsAt0_B m c t (by omega) h1 h2]
  dsimp only
  unfold sout0_B_0 kernelRun0_B
  dsimp only
  refine (View.read_writes_full _ _ _ _ _).trans ?_
  exact congr3 (ld _ _ _ _) (ld _ _ _ _) (ld _ _ _ _) (ld _ _ _ _) (ld _ _ _ _)

theorem sofar_last (t : Fin cfg0.N) (h2 : t.val % 11 = 10) :
    sofar m c t.val t.isLt = k0_pay3 (F := Ideal) (iblk m c 0 t) (iblk m c 2 t) (iblk m c 3 t) (iblk m c 4 t)
      (sofar m c (t.val - 1) (Nat.lt_of_le_of_lt (Nat.sub_le _ _) t.isLt)) := by
  unfold sofar
  rw [outsAt0_C m c t (by omega) (by omega) h2]
  dsimp only
  unfold sout0_C_0 kernelRun0_C
  dsimp only
  unfold kernelRun0_C.sl.HS0_1
  refine (View.read_writes_full _ _ _ _ _).trans ?_
  exact congr3 (ld _ _ _ _) (ld _ _ _ _) (ld _ _ _ _) (ld _ _ _ _) (ld _ _ _ _)

theorem sofar_next (t : Fin cfg0.N) (h1 : 1 ≤ t.val % 11) :
    sofar m c t.val t.isLt = k0_pay3 (F := Ideal) (iblk m c 0 t) (iblk m c 2 t) (iblk m c 3 t) (iblk m c 4 t)
      (sofar m c (t.val - 1) (Nat.lt_of_le_of_lt (Nat.sub_le _ _) t.isLt)) := by
  by_cases h2 : t.val % 11 = 10
  · exact sofar_last m c t h2
  · exact sofar_mid m c t h1 h2

/-- What a block's last point leaves in the two outputs. -/
theorem out_last (t : Fin cfg0.N) (h2 : t.val % 11 = 10) :
    (outsAt0 m c t.val t.isLt).1 = k0_pay4 (F := Ideal) (iblk m c 1 t) (sofar m c t.val t.isLt) (iblk m c 5 t) (iblk m c 6 t) := by
  rw [sofar_last m c t h2]
  unfold sofar
  rw [outsAt0_C m c t (by omega) (by omega) h2]
  dsimp only
  unfold out0_C_7 kernelRun0_C
  dsimp only
  refine (View.read_writes_full _ _ _ _ _).trans ?_
  refine congr4 (ld _ _ _ _) ?_ (ld _ _ _ _) (ld _ _ _ _)
  unfold kernelRun0_C.sl.v32
  refine (View.readCov_full _ _ _ _ _).trans ?_
  exact congr3 (ld _ _ _ _) (ld _ _ _ _) (ld _ _ _ _) (ld _ _ _ _) (ld _ _ _ _)

theorem out_last' (t : Fin cfg0.N) (h2 : t.val % 11 = 10) :
    (outsAt0 m c t.val t.isLt).2.1 = k0_pay5 (F := Ideal) (iblk m c 1 t) (sofar m c t.val t.isLt) (iblk m c 5 t) (iblk m c 6 t) := by
  rw [sofar_last m c t h2]
  unfold sofar
  rw [outsAt0_C m c t (by omega) (by omega) h2]
  dsimp only
  unfold out0_C_8 kernelRun0_C
  dsimp only
  refine (View.read_writes_full _ _ _ _ _).trans ?_
  refine congr5 (ld _ _ _ _) ?_ (ld _ _ _ _) (ld _ _ _ _)
  unfold kernelRun0_C.sl.v32
  refine (View.readCov_full _ _ _ _ _).trans ?_
  exact congr3 (ld _ _ _ _) (ld _ _ _ _) (ld _ _ _ _) (ld _ _ _ _) (ld _ _ _ _)

/-! ## The blocks -/

/-- The arguments at launch. -/
def ax : Vec Ideal S16384x1024 .bf16 := m ((c : Thread nD τ).loc main_arg0)
def ar : Vec Ideal S16384x1024 .f32 := m ((c : Thread nD τ).loc main_arg1)
def ag : Vec Ideal S1024x2816 .f32 := m ((c : Thread nD τ).loc main_arg2)
def au : Vec Ideal S1024x2816 .f32 := m ((c : Thread nD τ).loc main_arg3)
def ad : Vec Ideal S2816x1024 .f32 := m ((c : Thread nD τ).loc main_arg4)
def aga : Vec Ideal S1x1024 .f32 := m ((c : Thread nD τ).loc main_arg5)
def abe : Vec Ideal S1x1024 .f32 := m ((c : Thread nD τ).loc main_arg6)

theorem tile_lt (t : Fin cfg0.N) : t.val / 11 < 16 := by
  have := lt_of_lt_of_eq t.isLt (show cfg0.N = 176 from N_0)
  omega

/-- The place of row `r` of `t`'s block. -/
def rowAt (t : Fin cfg0.N) (r : Fin 1024) : Fin 16384 := ⟨t.val / 11 * 1024 + r.val, by have := tile_lt t; omega⟩
/-- The place of `t`'s chunk. -/
def chunkAt (t : Fin cfg0.N) : Fin 11 := ⟨t.val % 11, by omega⟩

theorem index0 : ∀ t : Fin cfg0.N, win0_0.index t (0 : Fin 2) = t.val / 11 ∧ win0_0.index t (1 : Fin 2) = 0 := (by decide +kernel : ∀ t : Fin grid0.N, _)
theorem index1 : ∀ t : Fin cfg0.N, win0_1.index t (0 : Fin 2) = t.val / 11 ∧ win0_1.index t (1 : Fin 2) = 0 := (by decide +kernel : ∀ t : Fin grid0.N, _)
theorem index2 : ∀ t : Fin cfg0.N, win0_2.index t (0 : Fin 2) = 0 ∧ win0_2.index t (1 : Fin 2) = t.val % 11 := (by decide +kernel : ∀ t : Fin grid0.N, _)
theorem index3 : ∀ t : Fin cfg0.N, win0_3.index t (0 : Fin 2) = 0 ∧ win0_3.index t (1 : Fin 2) = t.val % 11 := (by decide +kernel : ∀ t : Fin grid0.N, _)
theorem index4 : ∀ t : Fin cfg0.N, win0_4.index t (0 : Fin 2) = t.val % 11 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)

section Blocks
variable (t : Fin cfg0.N)

theorem bx_at (r j : Fin 1024) : (iblk m c 0 t : Vec Ideal S1024x1024 .bf16) (ix2 r j) = ax m c (ix2 (rowAt t r) j) := by
  refine congrArg (ax m c) (funext fun a => Fin.ext ?_)
  obtain ⟨e0, e1⟩ := index0 t
  match a with
  | ⟨0, _⟩ => show win0_0.index t (0 : Fin 2) * 1024 + 1 * r.val = t.val / 11 * 1024 + r.val; omega
  | ⟨1, _⟩ => show win0_0.index t (1 : Fin 2) * 1024 + 1 * j.val = j.val; omega
theorem br_at (r j : Fin 1024) : (iblk m c 1 t : Vec Ideal S1024x1024 .f32) (ix2 r j) = ar m c (ix2 (rowAt t r) j) := by
  refine congrArg (ar m c) (funext fun a => Fin.ext ?_)
  obtain ⟨e0, e1⟩ := index1 t
  match a with
  | ⟨0, _⟩ => show win0_1.index t (0 : Fin 2) * 1024 + 1 * r.val = t.val / 11 * 1024 + r.val; omega
  | ⟨1, _⟩ => show win0_1.index t (1 : Fin 2) * 1024 + 1 * j.val = j.val; omega
theorem bg_at (j : Fin 1024) (q : Fin 256) : (iblk m c 2 t : Vec Ideal S1024x256 .f32) (ix2 j q) = ag m c (ix2 j (place (chunkAt t) q)) := by
  refine congrArg (ag m c) (funext fun a => Fin.ext ?_)
  obtain ⟨e0, e1⟩ := index2 t
  match a with
  | ⟨0, _⟩ => show win0_2.index t (0 : Fin 2) * 1024 + 1 * j.val = j.val; omega
  | ⟨1, _⟩ => show win0_2.index t (1 : Fin 2) * 256 + 1 * q.val = t.val % 11 * 256 + q.val; omega
theorem bu_at (j : Fin 1024) (q : Fin 256) : (iblk m c 3 t : Vec Ideal S1024x256 .f32) (ix2 j q) = au m c (ix2 j (place (chunkAt t) q)) := by
  refine congrArg (au m c) (funext fun a => Fin.ext ?_)
  obtain ⟨e0, e1⟩ := index3 t
  match a with
  | ⟨0, _⟩ => show win0_3.index t (0 : Fin 2) * 1024 + 1 * j.val = j.val; omega
  | ⟨1, _⟩ => show win0_3.index t (1 : Fin 2) * 256 + 1 * q.val = t.val % 11 * 256 + q.val; omega
theorem bd_at (q : Fin 256) (d : Fin 1024) : (iblk m c 4 t : Vec Ideal S256x1024 .f32) (ix2 q d) = ad m c (ix2 (place (chunkAt t) q) d) := by
  refine congrArg (ad m c) (funext fun a => Fin.ext ?_)
  obtain ⟨e0, e1⟩ := index4 t
  match a with
  | ⟨0, _⟩ => show win0_4.index t (0 : Fin 2) * 256 + 1 * q.val = t.val % 11 * 256 + q.val; omega
  | ⟨1, _⟩ => show win0_4.index t (1 : Fin 2) * 1024 + 1 * d.val = d.val; omega
theorem bga_at (d : Fin 1024) : (iblk m c 5 t : Vec Ideal S1x1024 .f32) (ix2 0 d) = aga m c (ix2 0 d) := by
  refine congrArg (aga m c) (funext fun a => Fin.ext ?_)
  obtain ⟨e0, e1⟩ := index5 t
  match a with
  | ⟨0, _⟩ => show win0_5.index t (0 : Fin 2) * 1 + 1 * 0 = 0; omega
  | ⟨1, _⟩ => show win0_5.index t (1 : Fin 2) * 1024 + 1 * d.val = d.val; omega
theorem bbe_at (d : Fin 1024) : (iblk m c 6 t : Vec Ideal S1x1024 .f32) (ix2 0 d) = abe m c (ix2 0 d) := by
  refine congrArg (abe m c) (funext fun a => Fin.ext ?_)
  obtain ⟨e0, e1⟩ := index6 t
  match a with
  | ⟨0, _⟩ => show win0_6.index t (0 : Fin 2) * 1 + 1 * 0 = 0; omega
  | ⟨1, _⟩ => show win0_6.index t (1 : Fin 2) * 1024 + 1 * d.val = d.val; omega

end Blocks

/-! ## A block's sum -/

/-- A hidden place's part of an output. -/
def partAt (R : Fin 16384) (d : Fin 1024) (k : Fin 2816) : EReal :=
  part (fun j => ax m c (ix2 R j)) (fun j => ag m c (ix2 j k)) (fun j => au m c (ix2 j k)) (ad m c (ix2 k d))

theorem chunk_at (t : Fin cfg0.N) (r d : Fin 1024) :
    k0_pay1 (F := Ideal) (iblk m c 0 t) (iblk m c 2 t) (iblk m c 3 t) (iblk m c 4 t) (ix2 r d) = ∑ q, partAt m c (rowAt t r) d (place (chunkAt t) q) := by
  refine (part_at _ _ _ _ r d).trans (Finset.sum_congr rfl fun q _ => ?_)
  unfold partAt
  congr 1
  · exact funext fun j => bx_at m c t r j
  · exact funext fun j => bg_at m c t j q
  · exact funext fun j => bu_at m c t j q
  · exact bd_at m c t q d

theorem sofar_at (i : ℕ) (hi : i < 16) (r d : Fin 1024) (n : ℕ) :
    ∀ t : Fin cfg0.N, n < 11 → t.val = 11 * i + n →
      sofar m c t.val t.isLt (ix2 r d) = upTo (partAt m c ⟨i * 1024 + r.val, by omega⟩ d) n := by
  induction n with
  | zero =>
    intro t _ ht
    rw [sofar_first m c t (by omega), begin_at, upTo_zero, chunk_at m c t r d]
    rw [show chunkAt t = 0 from Fin.ext (by show t.val % 11 = 0; omega),
      show rowAt t r = ⟨i * 1024 + r.val, by omega⟩ from Fin.ext (by show t.val / 11 * 1024 + r.val = _; rw [show t.val / 11 = i by omega])]
  | succ n ih =>
    intro t hn ht
    let t' : Fin cfg0.N := ⟨t.val - 1, Nat.lt_of_le_of_lt (Nat.sub_le _ _) t.isLt⟩
    rw [sofar_next m c t (by omega), more_at, upTo_succ _ n hn, chunk_at m c t r d]
    rw [ih t' (by omega) (by show t.val - 1 = _; omega)]
    rw [show chunkAt t = ⟨n + 1, hn⟩ from Fin.ext (by show t.val % 11 = n + 1; omega),
      show rowAt t r = ⟨i * 1024 + r.val, by omega⟩ from Fin.ext (by show t.val / 11 * 1024 + r.val = _; rw [show t.val / 11 = i by omega])]

/-! ## The result arrays -/

/-- The row's norm, at every place. -/
def value (R : Fin 16384) (d : Fin 1024) : EReal :=
  row (fun j => ax m c (ix2 R j)) (fun j => ar m c (ix2 R j)) (fun j k => ag m c (ix2 j k)) (fun j k => au m c (ix2 j k))
    (fun k j => ad m c (ix2 k j)) (fun j => aga m c (ix2 0 j)) (fun j => abe m c (ix2 0 j)) d

/-- What the launch leaves in the two result arrays. -/
def result : Vec Ideal S16384x1024 .f32 := fun i => value m c (i 0) (i 1)
def result' : Vec Ideal S16384x1024 .bf16 := fun i => value m c (i 0) (i 1)

/-- A block's last point stores the norms of its rows. -/
theorem pay_at (t : Fin cfg0.N) (h : t.val % 11 = 10) (r d : Fin 1024) :
    k0_pay4 (F := Ideal) (iblk m c 1 t) (sofar m c t.val t.isLt) (iblk m c 5 t) (iblk m c 6 t) (ix2 r d) = value m c (rowAt t r) d := by
  refine (norm_at _ _ _ _ r d).trans ?_
  unfold value row
  have ht := tile_lt t
  congr 1
  · refine funext fun j => congrArg₂ add (br_at m c t r j) ?_
    rw [sofar_at m c (t.val / 11) ht r j 10 t (by omega) (by omega), upTo_all]
    rfl
  · exact funext fun j => bga_at m c t j
  · exact funext fun j => bbe_at m c t j

theorem out_at (t : Fin cfg0.N) (h : t.val % 11 = 10) (r d : Fin 1024) : (outsAt0 m c t.val t.isLt).1 (ix2 r d) = value m c (rowAt t r) d := by
  rw [out_last m c t h]
  exact pay_at m c t h r d
theorem out_at' (t : Fin cfg0.N) (h : t.val % 11 = 10) (r d : Fin 1024) : (outsAt0 m c t.val t.isLt).2.1 (ix2 r d) = value m c (rowAt t r) d := by
  rw [out_last' m c t h]
  exact (round_at _ _ _ _ r d).trans (pay_at m c t h r d)

/-- The first result array. -/
theorem final_o : Value.G7 m c = result m c := by
  refine funext fun (y : S16384x1024.Idx) => ?_
  have h0 : (y 0).val < 16384 := (y 0).isLt
  have h1 : (y 1).val < 1024 := (y 1).isLt
  have hp : Value.pt7Of y = 11 * ((y 0).val / 1024) + 10 := by
    show 11 * (1 * ((y 0).val / 1024 - 0) + 1 * ((y 1).val / 1024 - 0)) + 10 = _
    omega
  have hlt : Value.pt7Of y < cfg0.N := lt_of_lt_of_eq (by omega : _ < 176) (show 176 = cfg0.N from N_0.symm)
  unfold Value.G7
  rw [dif_pos hlt, ← Value.outsAt0_sweep m c _ hlt]
  rw [show Value.loc7Of y = ix2 ⟨(y 0).val % 1024, Nat.mod_lt _ (by decide)⟩ ⟨(y 1).val % 1024, Nat.mod_lt _ (by decide)⟩ from eq_ix2 _]
  refine (out_at m c ⟨Value.pt7Of y, hlt⟩ (by show Value.pt7Of y % 11 = 10; omega) _ _).trans ?_
  refine congrArg₂ (value m c) (Fin.ext ?_) (Fin.ext ?_)
  · show Value.pt7Of y / 11 * 1024 + (y 0).val % 1024 = (y 0).val
    omega
  · show (y 1).val % 1024 = (y 1).val
    omega

/-- The second. -/
theorem final_o' : Value.G8 m c = result' m c := by
  refine funext fun (y : S16384x1024.Idx) => ?_
  have h0 : (y 0).val < 16384 := (y 0).isLt
  have h1 : (y 1).val < 1024 := (y 1).isLt
  have hp : Value.pt8Of y = 11 * ((y 0).val / 1024) + 10 := by
    show 11 * (1 * ((y 0).val / 1024 - 0) + 1 * ((y 1).val / 1024 - 0)) + 10 = _
    omega
  have hlt : Value.pt8Of y < cfg0.N := lt_of_lt_of_eq (by omega : _ < 176) (show 176 = cfg0.N from N_0.symm)
  unfold Value.G8
  rw [dif_pos hlt, ← Value.outsAt0_sweep m c _ hlt]
  rw [show Value.loc8Of y = ix2 ⟨(y 0).val % 1024, Nat.mod_lt _ (by decide)⟩ ⟨(y 1).val % 1024, Nat.mod_lt _ (by decide)⟩ from eq_ix2 _]
  refine (out_at' m c ⟨Value.pt8Of y, hlt⟩ (by show Value.pt8Of y % 11 = 10; omega) _ _).trans ?_
  refine congrArg₂ (value m c) (Fin.ext ?_) (Fin.ext ?_)
  · show Value.pt8Of y / 11 * 1024 + (y 0).val % 1024 = (y 0).val
    omega
  · show (y 1).val % 1024 = (y 1).val
    omega

end Cert.Kernel3Ideal.Den
-- ==== Proof.DenseRef.lean ====
/-
  The dense feed-forward's reference: its two results hold, at every entry, the row's norm.
-/
module

public import proofs.«01_k».proof.Proof.Dense
public import proofs.«01_k».proof.Proof.Gen.Reference3Ideal.Read

@[expose] public section

set_option maxRecDepth 16384
set_option maxHeartbeats 400000

noncomputable section

namespace Cert.Reference3Ideal.Den

open Cert.Reference3Ideal Cert.Reference3Ideal.Gen Cert.Reference3Ideal.Read
open Idealize.ShloMosaic Idealize.ShloMosaic.TcCoe Idealize.SL.Sem
open Cert.Dense
open Cert.Expert (part gate one_bits)

variable (x0 : (⟨S16384x1024, .bf16⟩ : BufTy).Contents (Elt Ideal)) (x1 : (⟨S16384x1024, .f32⟩ : BufTy).Contents (Elt Ideal))
  (x2 x3 : (⟨S1024x2816, .f32⟩ : BufTy).Contents (Elt Ideal)) (x4 : (⟨S2816x1024, .f32⟩ : BufTy).Contents (Elt Ideal))
  (x5 x6 : (⟨S1x1024, .f32⟩ : BufTy).Contents (Elt Ideal))

/-- The arguments by their coordinates. -/
abbrev X (r : Fin 16384) (j : Fin 1024) : EReal := x0 (ix2 r j)
abbrev R (r : Fin 16384) (j : Fin 1024) : EReal := x1 (ix2 r j)
abbrev W (j : Fin 1024) (k : Fin 2816) : EReal := x2 (ix2 j k)
abbrev D (k : Fin 2816) (d : Fin 1024) : EReal := x4 (ix2 k d)
abbrev V (d : Fin 1024) : EReal := x5 (ix2 0 d)

/-- The row before its norm. -/
abbrev Z (r : Fin 16384) (d : Fin 1024) : EReal := add (R x1 r d) (ffn (X x0 r) (W x2) (W x3) (D x4) d)

/-- The first products. -/
theorem dot1_at (i : S16384x2816.Idx) (r : Fin 16384) (k : Fin 2816) (hi : i = ix2 r k) :
    val_main_v1 (F := Ideal) x0 x2 i = ∑ j, X x0 r j * W x2 j k := by
  subst hi
  rw [val_main_v1_apply]
  exact Finset.sum_congr rfl fun j _ => congrArg₂ (· * ·) ((val_main_v0_apply x0 _).trans (congrArg x0 (eq_ix2 _))) (congrArg x2 (eq_ix2 _))
theorem dot2_at (i : S16384x2816.Idx) (r : Fin 16384) (k : Fin 2816) (hi : i = ix2 r k) :
    val_main_v3 (F := Ideal) x0 x3 i = ∑ j, X x0 r j * W x3 j k := by
  subst hi
  rw [val_main_v3_apply]
  exact Finset.sum_congr rfl fun j _ => congrArg₂ (· * ·) ((val_main_v0_apply x0 _).trans (congrArg x0 (eq_ix2 _))) (congrArg x3 (eq_ix2 _))

/-- The gate as the reference's operations spell it. -/
theorem gate_host (p q : EReal) :
    FloatOps.mulf (F := Ideal) (φ := .f32) (FloatOps.mulf (F := Ideal) (φ := .f32) p
      (FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.negf (F := Ideal) (φ := .f32) p))))) q = gate p q := by
  unfold gate
  rw [← one_bits]
  rfl

theorem hidden_at (i : S16384x2816.Idx) (r : Fin 16384) (k : Fin 2816) (hi : i = ix2 r k) :
    val_main_v4 (F := Ideal) x0 x2 x3 i = gate (∑ j, X x0 r j * W x2 j k) (∑ j, X x0 r j * W x3 j k) := by
  rw [val_main_v4_apply, val_main_v2_apply, val_main_call0_v5_apply, val_main_call0_v4_apply, val_main_call0_cst_0_apply,
    val_main_call0_v3_apply, val_main_call0_v2_apply, val_main_call0_cst_apply, val_main_call0_v1_apply, val_main_call0_v0_apply,
    dot1_at x0 x2 i r k hi, dot2_at x0 x3 i r k hi]
  exact gate_host _ _

/-- The row before its norm, as the operations leave it. -/
theorem sum_at (i : S16384x1024.Idx) (r : Fin 16384) (d : Fin 1024) (hi : i = ix2 r d) :
    val_main_v8 (F := Ideal) x0 x1 x2 x3 x4 i = Z x0 x1 x2 x3 x4 r d := by
  subst hi
  rw [val_main_v8_apply, val_main_v7_apply, val_main_v6_apply, val_main_cst_apply, val_main_v5_apply]
  exact congrArg (Ideal.ofBits .f32 0x3FB504F3#32 * x1 (ix2 r d) + ·) (Finset.sum_congr rfl fun k _ =>
    congrArg₂ (· * ·) (hidden_at x0 x2 x3 _ r k (eq_ix2 _)) (congrArg x4 (eq_ix2 _)))

/-- The row's mean. -/
theorem mean_at (i : S16384x1.Idx) (r : Fin 16384) (hi : i = ix2 r 0) :
    val_main_v12 (F := Ideal) x0 x1 x2 x3 x4 i = mean (Z x0 x1 x2 x3 x4 r) := by
  subst hi
  rw [val_main_v12_apply, val_main_v11_apply, val_main_cst_1_apply, val_main_v10_apply, val_main_v9_apply, val_main_cst_0_apply]
  refine congrArg (Ideal.div · (Ideal.ofBits .f32 0x44800000#32)) ?_
  refine (congrArg₂ (· + ·) Ideal.ofBits_zero_f32 (Finset.sum_congr rfl fun k _ => sum_at x0 x1 x2 x3 x4 _ r k (eq_ix2 _))).trans ?_
  exact zero_add _

theorem less_at (i : S16384x1024.Idx) (r : Fin 16384) (d : Fin 1024) (hi : i = ix2 r d) :
    val_main_v14 (F := Ideal) x0 x1 x2 x3 x4 i = less (Z x0 x1 x2 x3 x4 r) d := by
  rw [val_main_v14_apply, sum_at x0 x1 x2 x3 x4 i r d hi, val_main_v13_apply,
    mean_at x0 x1 x2 x3 x4 _ r (by subst hi; exact eq_ix2 _)]
  rfl

/-- The row's variance. -/
theorem var_at (i : S16384x1.Idx) (r : Fin 16384) (hi : i = ix2 r 0) :
    val_main_v19 (F := Ideal) x0 x1 x2 x3 x4 i = mean (fun j => less (Z x0 x1 x2 x3 x4 r) j * less (Z x0 x1 x2 x3 x4 r) j) := by
  subst hi
  rw [val_main_v19_apply, val_main_v18_apply, val_main_cst_3_apply, val_main_v17_apply, val_main_v16_apply, val_main_cst_2_apply]
  refine congrArg (Ideal.div · (Ideal.ofBits .f32 0x44800000#32)) ?_
  refine (congrArg₂ (· + ·) Ideal.ofBits_zero_f32 (Finset.sum_congr rfl fun k _ =>
    (val_main_v15_apply x0 x1 x2 x3 x4 _).trans (congrArg₂ (· * ·) (less_at x0 x1 x2 x3 x4 _ r k (eq_ix2 _)) (less_at x0 x1 x2 x3 x4 _ r k (eq_ix2 _))))).trans ?_
  exact zero_add _

/-- The first result. -/
theorem result_at (r : Fin 16384) (d : Fin 1024) : val_main_v28 (F := Ideal) x0 x1 x2 x3 x4 x5 x6 (ix2 r d)
    = row (X x0 r) (R x1 r) (W x2) (W x3) (D x4) (V x5) (V x6) d := by
  rw [val_main_v28_apply, val_main_v27_apply, val_main_v26_apply, val_main_v25_apply, val_main_v24_apply, val_main_v23_apply,
    val_main_v22_apply, val_main_v21_apply, val_main_v20_apply, val_main_cst_4_apply, less_at x0 x1 x2 x3 x4 _ r d rfl,
    var_at x0 x1 x2 x3 x4 _ r (eq_ix2 _)]
  refine congrArg₂ (· + ·) (congrArg₂ (· * ·) rfl ?_) ?_
  · exact congrArg x5 (eq_ix2 _)
  · exact congrArg x6 (eq_ix2 _)

/-- The second result is the first, rounded. -/
theorem rounded_at (r : Fin 16384) (d : Fin 1024) : val_main_v29 (F := Ideal) x0 x1 x2 x3 x4 x5 x6 (ix2 r d)
    = row (X x0 r) (R x1 r) (W x2) (W x3) (D x4) (V x5) (V x6) d :=
  (val_main_v29_apply x0 x1 x2 x3 x4 x5 x6 _).trans (result_at x0 x1 x2 x3 x4 x5 x6 r d)

end Cert.Reference3Ideal.Den
-- ==== Proof.lean ====
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Defs
public import proofs.«01_k».proof.Proof.KernelBody
public import proofs.«01_k».proof.Proof.KerRun
public import proofs.«01_k».proof.Proof.RefValue
public import proofs.«01_k».proof.Proof.Kernel2Tables
public import proofs.«01_k».proof.Proof.ExpertRun
public import proofs.«01_k».proof.Proof.ExpertRef
public import proofs.«01_k».proof.Proof.DenseRun
public import proofs.«01_k».proof.Proof.DenseRef
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

open Cert.ReferenceIdeal in
/-- The reference's run, from memories agreeing with the kernel's on the arguments: its result is the kernel's. -/
theorem reference_run (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h : m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)
      ∧ m' ((c.tc : Thread nD τ).loc main_arg2) = m ((c.tc : Thread Cert.KernelIdeal.nD Cert.KernelIdeal.τ).loc Cert.KernelIdeal.main_arg2)
      ∧ m' ((c.tc : Thread nD τ).loc main_arg3) = m ((c.tc : Thread Cert.KernelIdeal.nD Cert.KernelIdeal.τ).loc Cert.KernelIdeal.main_arg3)) :
    Read.val_main_v167 (F := Ideal) (m' ((c.tc : Thread nD τ).loc main_arg0)) (m' ((c.tc : Thread nD τ).loc main_arg1))
      (m' ((c.tc : Thread nD τ).loc main_arg2)) (m' ((c.tc : Thread nD τ).loc main_arg3)) = Cert.KernelIdeal.Att.result m c := by
  obtain ⟨h0, h1, h2, h3⟩ := h
  rw [h0, h1, h2, h3]
  refine funext fun (y : S8x2048x512.Idx) => ?_
  rw [eq_ix3 y]
  exact Att.value_at _ _ _ _ (y 0) (y 1) (y 2)

/-- The reference runs, its arguments end unchanged, and it declares no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- From memories agreeing on the arguments, the kernel and the reference end with the same result. -/
theorem algebraic : Cert.algebraic_KernelIdeal_ReferenceIdeal (hKernelIdeal := Cert.KernelIdeal.Gen.facts) (hReferenceIdeal := Cert.ReferenceIdeal.Gen.facts) :=
  fun m g m' g' _ h => ⟨fun c => Cert.KernelIdeal.Att.result m c, Cert.KernelIdeal.Att.run m g,
    (θ_run _ _ _).mono (fun _ hr c => ⟨(hr c).1.trans ((Cert.ReferenceIdeal.Read.val_main_v167_eq (StableHlo.launchContents m' c)).trans (reference_run m m' c (h c))), (hr c).2⟩)
      (Cert.ReferenceIdeal.Value.run m' g')⟩

/-! ## The experts' call -/

open Cert.Reference2Ideal in
/-- The reference's result, from memories agreeing with the kernel's on the arguments, is the kernel's. -/
theorem experts_reference (m : (ℓ : Loc Cert.Kernel2Ideal.nD Cert.Kernel2Ideal.τ Cert.Kernel2Ideal.sig) → Buf (Elt Ideal) ℓ)
    (h : Cert.Kernel2Ideal.Exp.Named m) (m' : (ℓ : Loc nD τ sig) → Buf (Elt Ideal) ℓ) (c : Dev nD)
    (e : m' ((c.tc : Thread nD τ).loc main_arg0) = m ((c.tc : Thread Cert.Kernel2Ideal.nD Cert.Kernel2Ideal.τ).loc Cert.Kernel2Ideal.main_arg0)
      ∧ m' ((c.tc : Thread nD τ).loc main_arg1) = m ((c.tc : Thread Cert.Kernel2Ideal.nD Cert.Kernel2Ideal.τ).loc Cert.Kernel2Ideal.main_arg1)
      ∧ m' ((c.tc : Thread nD τ).loc main_arg2) = m ((c.tc : Thread Cert.Kernel2Ideal.nD Cert.Kernel2Ideal.τ).loc Cert.Kernel2Ideal.main_arg2)
      ∧ m' ((c.tc : Thread nD τ).loc main_arg3) = m ((c.tc : Thread Cert.Kernel2Ideal.nD Cert.Kernel2Ideal.τ).loc Cert.Kernel2Ideal.main_arg3)
      ∧ m' ((c.tc : Thread nD τ).loc main_arg4) = m ((c.tc : Thread Cert.Kernel2Ideal.nD Cert.Kernel2Ideal.τ).loc Cert.Kernel2Ideal.main_arg4)
      ∧ m' ((c.tc : Thread nD τ).loc main_arg5) = m ((c.tc : Thread Cert.Kernel2Ideal.nD Cert.Kernel2Ideal.τ).loc Cert.Kernel2Ideal.main_arg5)) :
    Read.val_main_v24 (F := Ideal) (m' ((c.tc : Thread nD τ).loc main_arg0)) (m' ((c.tc : Thread nD τ).loc main_arg1))
      (m' ((c.tc : Thread nD τ).loc main_arg2)) (m' ((c.tc : Thread nD τ).loc main_arg3)) (m' ((c.tc : Thread nD τ).loc main_arg4))
      (m' ((c.tc : Thread nD τ).loc main_arg5)) = Cert.Kernel2Ideal.Exp.result (Cert.Kernel2Ideal.Exp.adm m h) m c := by
  obtain ⟨h0, h1, h2, h3, h4, h5⟩ := e
  obtain rfl : c = 0 := Subsingleton.elim _ _
  rw [h0, h1, h2, h3, h4, h5]
  refine funext fun (y : S40960x1024.Idx) => ?_
  obtain ⟨r, d, rfl⟩ : ∃ (r : Fin 40960) (d : Fin 1024), y = ix2 r d := ⟨y 0, y 1, eq_ix2 y⟩
  exact Cert.Reference2Ideal.Exp.result_at _ _ _ _ _ _ r d

/-- The experts' reference runs, its arguments end unchanged, and it declares no semaphore. -/
theorem experts_reference_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The same from every memory the precondition holds of. -/
theorem experts_reference_frame_named : Cert.quiescent_Reference2Ideal_pre_tiles_named (hReference2Ideal := Cert.Reference2Ideal.Gen.facts)
    (hPre_tiles_named := Cert.Pre_tiles_named.Gen.facts) := fun m ρ _ => experts_reference_frame m ρ trivial

/-- From memories agreeing on the arguments and under the precondition, the experts' kernel and reference end with the same result. -/
theorem experts_algebraic : Cert.algebraic_Kernel2Ideal_Reference2Ideal (hKernel2Ideal := Cert.Kernel2Ideal.Gen.facts)
    (hReference2Ideal := Cert.Reference2Ideal.Gen.facts) (hPre_tiles_named := Cert.Pre_tiles_named.Gen.facts) :=
  fun m g m' g' hp h =>
    have hn : Cert.Kernel2Ideal.Exp.Named m := Cert.Kernel2Ideal.Exp.named_of m hp
    ⟨fun c => Cert.Kernel2Ideal.Exp.result (Cert.Kernel2Ideal.Exp.adm m hn) m c, Cert.Kernel2Ideal.Exp.run m g hn,
      (θ_run _ _ _).mono (fun _ hr c => ⟨(hr c).1.trans ((Cert.Reference2Ideal.Read.val_main_v24_eq _ _ _ _ _ _).trans (experts_reference m hn m' c (h c))), (hr c).2⟩)
        (Cert.Reference2Ideal.Value.run m' g')⟩

/-! ## The dense call -/

open Cert.Reference3Ideal in
/-- The reference's first result, from memories agreeing with the kernel's on the arguments, is the kernel's. -/
theorem dense_reference (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (e : m' ((c.tc : Thread nD τ).loc main_arg0) = m ((c.tc : Thread Cert.Kernel3Ideal.nD Cert.Kernel3Ideal.τ).loc Cert.Kernel3Ideal.main_arg0)
      ∧ m' ((c.tc : Thread nD τ).loc main_arg1) = m ((c.tc : Thread Cert.Kernel3Ideal.nD Cert.Kernel3Ideal.τ).loc Cert.Kernel3Ideal.main_arg1)
      ∧ m' ((c.tc : Thread nD τ).loc main_arg2) = m ((c.tc : Thread Cert.Kernel3Ideal.nD Cert.Kernel3Ideal.τ).loc Cert.Kernel3Ideal.main_arg2)
      ∧ m' ((c.tc : Thread nD τ).loc main_arg3) = m ((c.tc : Thread Cert.Kernel3Ideal.nD Cert.Kernel3Ideal.τ).loc Cert.Kernel3Ideal.main_arg3)
      ∧ m' ((c.tc : Thread nD τ).loc main_arg4) = m ((c.tc : Thread Cert.Kernel3Ideal.nD Cert.Kernel3Ideal.τ).loc Cert.Kernel3Ideal.main_arg4)
      ∧ m' ((c.tc : Thread nD τ).loc main_arg5) = m ((c.tc : Thread Cert.Kernel3Ideal.nD Cert.Kernel3Ideal.τ).loc Cert.Kernel3Ideal.main_arg5)
      ∧ m' ((c.tc : Thread nD τ).loc main_arg6) = m ((c.tc : Thread Cert.Kernel3Ideal.nD Cert.Kernel3Ideal.τ).loc Cert.Kernel3Ideal.main_arg6)) :
    Read.val_main_v28 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) = Cert.Kernel3Ideal.Den.result m c := by
  obtain ⟨h0, h1, h2, h3, h4, h5, h6⟩ := e
  rw [h0, h1, h2, h3, h4, h5, h6]
  refine funext fun (y : S16384x1024.Idx) => ?_
  obtain ⟨r, d, rfl⟩ : ∃ (r : Fin 16384) (d : Fin 1024), y = ix2 r d := ⟨y 0, y 1, eq_ix2 y⟩
  exact Cert.Reference3Ideal.Den.result_at _ _ _ _ _ _ _ r d

open Cert.Reference3Ideal in
/-- So is its second. -/
theorem dense_reference_rounded (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (e : m' ((c.tc : Thread nD τ).loc main_arg0) = m ((c.tc : Thread Cert.Kernel3Ideal.nD Cert.Kernel3Ideal.τ).loc Cert.Kernel3Ideal.main_arg0)
      ∧ m' ((c.tc : Thread nD τ).loc main_arg1) = m ((c.tc : Thread Cert.Kernel3Ideal.nD Cert.Kernel3Ideal.τ).loc Cert.Kernel3Ideal.main_arg1)
      ∧ m' ((c.tc : Thread nD τ).loc main_arg2) = m ((c.tc : Thread Cert.Kernel3Ideal.nD Cert.Kernel3Ideal.τ).loc Cert.Kernel3Ideal.main_arg2)
      ∧ m' ((c.tc : Thread nD τ).loc main_arg3) = m ((c.tc : Thread Cert.Kernel3Ideal.nD Cert.Kernel3Ideal.τ).loc Cert.Kernel3Ideal.main_arg3)
      ∧ m' ((c.tc : Thread nD τ).loc main_arg4) = m ((c.tc : Thread Cert.Kernel3Ideal.nD Cert.Kernel3Ideal.τ).loc Cert.Kernel3Ideal.main_arg4)
      ∧ m' ((c.tc : Thread nD τ).loc main_arg5) = m ((c.tc : Thread Cert.Kernel3Ideal.nD Cert.Kernel3Ideal.τ).loc Cert.Kernel3Ideal.main_arg5)
      ∧ m' ((c.tc : Thread nD τ).loc main_arg6) = m ((c.tc : Thread Cert.Kernel3Ideal.nD Cert.Kernel3Ideal.τ).loc Cert.Kernel3Ideal.main_arg6)) :
    Read.val_main_v29 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) = Cert.Kernel3Ideal.Den.result' m c := by
  obtain ⟨h0, h1, h2, h3, h4, h5, h6⟩ := e
  rw [h0, h1, h2, h3, h4, h5, h6]
  refine funext fun (y : S16384x1024.Idx) => ?_
  obtain ⟨r, d, rfl⟩ : ∃ (r : Fin 16384) (d : Fin 1024), y = ix2 r d := ⟨y 0, y 1, eq_ix2 y⟩
  exact Cert.Reference3Ideal.Den.rounded_at _ _ _ _ _ _ _ r d

/-- The dense reference runs, its arguments end unchanged, and it declares no semaphore. -/
theorem dense_reference_frame : Cert.quiescent_Reference3Ideal (hReference3Ideal := Cert.Reference3Ideal.Gen.facts) := fun m ρ _ =>
  (θ_run _ _ _).mono (fun r h => ⟨fun c => (h c).2.2, sem_eq_zero_of_no_sems (by decide) r.2⟩) (Cert.Reference3Ideal.Value.run m ρ)

/-- From memories agreeing on the arguments, the dense kernel and reference end with the same two results. -/
theorem dense_algebraic : Cert.algebraic_Kernel3Ideal_Reference3Ideal (hKernel3Ideal := Cert.Kernel3Ideal.Gen.facts)
    (hReference3Ideal := Cert.Reference3Ideal.Gen.facts) :=
  fun m g m' g' _ h => ⟨fun c => Cert.Kernel3Ideal.Den.result m c, fun c => Cert.Kernel3Ideal.Den.result' m c,
    (θ_run _ _ _).mono (fun _ hr c => ⟨(hr c).1.trans (Cert.Kernel3Ideal.Den.final_o m c),
      (hr c).2.1.trans (Cert.Kernel3Ideal.Den.final_o' m c), (hr c).2.2⟩) (Cert.Kernel3Ideal.Value.run m g),
    (θ_run _ _ _).mono (fun _ hr c => ⟨(hr c).1.trans ((Cert.Reference3Ideal.Read.val_main_v28_eq m' c).trans (dense_reference m m' c (h c))),
      (hr c).2.1.trans ((Cert.Reference3Ideal.Read.val_main_v29_eq m' c).trans (dense_reference_rounded m m' c (h c))), (hr c).2.2⟩)
      (Cert.Reference3Ideal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_tiles_named.Gen.facts,
  fun m ρ _ => Cert.Kernel.Att.frame m ρ,
  fun m ρ _ => Cert.KernelIdeal.Att.frame m ρ,
  reference_frame,
  fun m ρ h => Cert.Kernel2.Exp.frame m ρ (Cert.Kernel2.Exp.named_of m h),
  fun m ρ h => Cert.Kernel2Ideal.Exp.frame m ρ (Cert.Kernel2Ideal.Exp.named_of m h),
  experts_reference_frame,
  experts_reference_frame_named,
  fun m ρ _ => Cert.Kernel3.Gen.frame m ρ,
  fun m ρ _ => Cert.Kernel3Ideal.Gen.frame m ρ,
  dense_reference_frame,
  IdealRules.named_const.statement Cert.KernelIdeal.κ "mask" .f32 0xF149F2CA#32 ⊥ rfl,
  algebraic,
  trivial,
  experts_algebraic,
  trivial,
  dense_algebraic⟩

end Cert.Proof

end
